-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S100000x100 : Shape := ⟨2, ![100000, 100]⟩
abbrev S100000 : Shape := ⟨1, ![100000]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel

variable [Facts]

def fn {F : FTy → Type} [FloatOps F] (main_arg0 : FVec F S100000x100 .f32) (main_arg1 : IVec S100000 32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  main_v3
-- ==== Kernel.lean ====
abbrev S100000x100 : Shape := ⟨2, ![100000, 100]⟩
abbrev S100000 : Shape := ⟨1, ![100000]⟩
abbrev S100000x1 : Shape := ⟨2, ![100000, 1]⟩
abbrev S_ : Shape := ⟨0, ![]⟩
abbrev S10 : Shape := ⟨1, ![10]⟩
abbrev S1 : Shape := ⟨1, ![1]⟩
abbrev S11 : Shape := ⟨1, ![11]⟩
abbrev S1x11 : Shape := ⟨2, ![1, 11]⟩
abbrev S1x1 : Shape := ⟨2, ![1, 1]⟩
abbrev S4000x100 : Shape := ⟨2, ![4000, 100]⟩
abbrev S4000x1 : Shape := ⟨2, ![4000, 1]⟩
abbrev S11x100 : Shape := ⟨2, ![11, 100]⟩
abbrev S100x1 : Shape := ⟨2, ![100, 1]⟩
abbrev S1x4000 : Shape := ⟨2, ![1, 4000]⟩
abbrev S1x100 : Shape := ⟨2, ![1, 100]⟩
abbrev S10x100 : Shape := ⟨2, ![10, 100]⟩
abbrev S1x10x100 : Shape := ⟨3, ![1, 10, 100]⟩
abbrev S1x1x1 : Shape := ⟨3, ![1, 1, 1]⟩

abbrev nBuf : Space → Nat
  | .hbm => 28
  | .vmem => 6
  | .smem => 1
  | _ => 0

abbrev bufTy : (tb : Table) → Fin (tcTables nBuf tb) → BufTy
  | .hbm, ⟨0, _⟩ => ⟨S100000x100, .f32⟩
  | .hbm, ⟨1, _⟩ => ⟨S100000, .i32⟩
  | .hbm, ⟨2, _⟩ => ⟨S100000x1, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S10, .f32⟩
  | .hbm, ⟨11, _⟩ => ⟨S_, .f32⟩
  | .hbm, ⟨12, _⟩ => ⟨S10, .f32⟩
  | .hbm, ⟨13, _⟩ => ⟨S10, .f32⟩
  | .hbm, ⟨14, _⟩ => ⟨S1, .f32⟩
  | .hbm, ⟨15, _⟩ => ⟨S_, .f32⟩
  | .hbm, ⟨16, _⟩ => ⟨S10, .f32⟩
  | .hbm, ⟨17, _⟩ => ⟨S10, .f32⟩
  | .hbm, ⟨18, _⟩ => ⟨S10, .f32⟩
  | .hbm, ⟨19, _⟩ => ⟨S10, .f32⟩
  | .hbm, ⟨20, _⟩ => ⟨S1, .f32⟩
  | .hbm, ⟨21, _⟩ => ⟨S10, .f32⟩
  | .hbm, ⟨22, _⟩ => ⟨S10, .f32⟩
  | .hbm, ⟨23, _⟩ => ⟨S10, .f32⟩
  | .hbm, ⟨24, _⟩ => ⟨S1, .f32⟩
  | .hbm, ⟨25, _⟩ => ⟨S11, .f32⟩
  | .hbm, ⟨26, _⟩ => ⟨S1x11, .f32⟩
  | .hbm, ⟨27, _⟩ => ⟨S1x1, .f32⟩
  | .local _ .vmem, ⟨0, _⟩ => ⟨S4000x100, .f32⟩
  | .local _ .vmem, ⟨1, _⟩ => ⟨S4000x100, .f32⟩
  | .local _ .vmem, ⟨2, _⟩ => ⟨S4000x1, .i32⟩
  | .local _ .vmem, ⟨3, _⟩ => ⟨S4000x1, .i32⟩
  | .local _ .vmem, ⟨4, _⟩ => ⟨S1x1, .f32⟩
  | .local _ .vmem, ⟨5, _⟩ => ⟨S11x100, .f32⟩
  | .local _ .smem, ⟨0, _⟩ => ⟨S1x11, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_scratch0 : Ref sig .tc := ⟨.vmem, 5, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v125 : BitVec 1 := Scalar.cmpi .eq arg0 c24_i32
  let v126 : BitVec 32 := Scalar.extui v125
  let c0_i32_76 : BitVec 32 := 0#32
  let v127 : BitVec 1 := Scalar.cmpi .ne v126 c0_i32_76
  v127

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x11 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S100000x100 : Shape := ⟨2, ![100000, 100]⟩
abbrev S100000 : Shape := ⟨1, ![100000]⟩
abbrev S_ : Shape := ⟨0, ![]⟩
abbrev S100000x1 : Shape := ⟨2, ![100000, 1]⟩
abbrev S10 : Shape := ⟨1, ![10]⟩
abbrev S1 : Shape := ⟨1, ![1]⟩
abbrev S11 : Shape := ⟨1, ![11]⟩
abbrev S100 : Shape := ⟨1, ![100]⟩
abbrev S1x100 : Shape := ⟨2, ![1, 100]⟩
abbrev S10x1x1 : Shape := ⟨3, ![10, 1, 1]⟩
abbrev S1x100000x100 : Shape := ⟨3, ![1, 100000, 100]⟩
abbrev S10x100000x100 : Shape := ⟨3, ![10, 100000, 100]⟩
abbrev S10x100 : Shape := ⟨2, ![10, 100]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x100, .f32⟩
  | .hbm, ⟨1, _⟩ => ⟨S100000, .i32⟩
  | .hbm, ⟨2, _⟩ => ⟨S_, .f32⟩
  | .hbm, ⟨3, _⟩ => ⟨S100000, .f32⟩
  | .hbm, ⟨4, _⟩ => ⟨S_, .f32⟩
  | .hbm, ⟨5, _⟩ => ⟨S100000, .f32⟩
  | .hbm, ⟨6, _⟩ => ⟨S100000, .f32⟩
  | .hbm, ⟨7, _⟩ => ⟨S100000x1, .f32⟩
  | .hbm, ⟨8, _⟩ => ⟨S100000x100, .f32⟩
  | .hbm, ⟨9, _⟩ => ⟨S100000x100, .f32⟩
  | .hbm, ⟨10, _⟩ => ⟨S100000x100, .f32⟩
  | .hbm, ⟨11, _⟩ => ⟨S_, .f32⟩
  | .hbm, ⟨12, _⟩ => ⟨S100000, .f32⟩
  | .hbm, ⟨13, _⟩ => ⟨S100000x1, .f32⟩
  | .hbm, ⟨14, _⟩ => ⟨S100000x100, .f32⟩
  | .hbm, ⟨15, _⟩ => ⟨S100000x100, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S10, .f32⟩
  | .hbm, ⟨24, _⟩ => ⟨S_, .f32⟩
  | .hbm, ⟨25, _⟩ => ⟨S10, .f32⟩
  | .hbm, ⟨26, _⟩ => ⟨S10, .f32⟩
  | .hbm, ⟨27, _⟩ => ⟨S1, .f32⟩
  | .hbm, ⟨28, _⟩ => ⟨S_, .f32⟩
  | .hbm, ⟨29, _⟩ => ⟨S10, .f32⟩
  | .hbm, ⟨30, _⟩ => ⟨S10, .f32⟩
  | .hbm, ⟨31, _⟩ => ⟨S10, .f32⟩
  | .hbm, ⟨32, _⟩ => ⟨S10, .f32⟩
  | .hbm, ⟨33, _⟩ => ⟨S1, .f32⟩
  | .hbm, ⟨34, _⟩ => ⟨S10, .f32⟩
  | .hbm, ⟨35, _⟩ => ⟨S10, .f32⟩
  | .hbm, ⟨36, _⟩ => ⟨S10, .f32⟩
  | .hbm, ⟨37, _⟩ => ⟨S1, .f32⟩
  | .hbm, ⟨38, _⟩ => ⟨S11, .f32⟩
  | .hbm, ⟨39, _⟩ => ⟨S100000x1, .i32⟩
  | .hbm, ⟨40, _⟩ => ⟨S100, .i32⟩
  | .hbm, ⟨41, _⟩ => ⟨S1x100, .i32⟩
  | .hbm, ⟨42, _⟩ => ⟨S100000x100, .i32⟩
  | .hbm, ⟨43, _⟩ => ⟨S100000x100, .i32⟩
  | .hbm, ⟨44, _⟩ => ⟨S100000x100, .i1⟩
  | .hbm, ⟨45, _⟩ => ⟨S10, .f32⟩
  | .hbm, ⟨46, _⟩ => ⟨S10x1x1, .f32⟩
  | .hbm, ⟨47, _⟩ => ⟨S10, .f32⟩
  | .hbm, ⟨48, _⟩ => ⟨S10x1x1, .f32⟩
  | .hbm, ⟨49, _⟩ => ⟨S1x100000x100, .f32⟩
  | .hbm, ⟨50, _⟩ => ⟨S10x100000x100, .f32⟩
  | .hbm, ⟨51, _⟩ => ⟨S10x100000x100, .f32⟩
  | .hbm, ⟨52, _⟩ => ⟨S10x100000x100, .i1⟩
  | .hbm, ⟨53, _⟩ => ⟨S1x100000x100, .f32⟩
  | .hbm, ⟨54, _⟩ => ⟨S10x100000x100, .f32⟩
  | .hbm, ⟨55, _⟩ => ⟨S10x100000x100, .f32⟩
  | .hbm, ⟨56, _⟩ => ⟨S10x100000x100, .i1⟩
  | .hbm, ⟨57, _⟩ => ⟨S10x100000x100, .i1⟩
  | .hbm, ⟨58, _⟩ => ⟨S10x100000x100, .i32⟩
  | .hbm, ⟨59, _⟩ => ⟨S_, .i32⟩
  | .hbm, ⟨60, _⟩ => ⟨S10x100, .i32⟩
  | .hbm, ⟨61, _⟩ => ⟨S10x100, .f32⟩
  | .hbm, ⟨62, _⟩ => ⟨S_, .f32⟩
  | .hbm, ⟨63, _⟩ => ⟨S10x100, .f32⟩
  | .hbm, ⟨64, _⟩ => ⟨S10x100, .f32⟩
  | .hbm, ⟨65, _⟩ => ⟨S_, .i32⟩
  | .hbm, ⟨66, _⟩ => ⟨S10x100, .i32⟩
  | .hbm, ⟨67, _⟩ => ⟨S10x100, .i32⟩
  | .hbm, ⟨68, _⟩ => ⟨S10x100, .f32⟩
  | .hbm, ⟨69, _⟩ => ⟨S1x100000x100, .i1⟩
  | .hbm, ⟨70, _⟩ => ⟨S10x100000x100, .i1⟩
  | .hbm, ⟨71, _⟩ => ⟨S10x100000x100, .i1⟩
  | .hbm, ⟨72, _⟩ => ⟨S10x100000x100, .i32⟩
  | .hbm, ⟨73, _⟩ => ⟨S_, .i32⟩
  | .hbm, ⟨74, _⟩ => ⟨S10x100, .i32⟩
  | .hbm, ⟨75, _⟩ => ⟨S10x100, .f32⟩
  | .hbm, ⟨76, _⟩ => ⟨S10x100, .f32⟩
  | .hbm, ⟨77, _⟩ => ⟨S1x100000x100, .f32⟩
  | .hbm, ⟨78, _⟩ => ⟨S_, .f32⟩
  | .hbm, ⟨79, _⟩ => ⟨S_, .f32⟩
  | .hbm, ⟨80, _⟩ => ⟨S10x100000x100, .f32⟩
  | .hbm, ⟨81, _⟩ => ⟨S10x100000x100, .f32⟩
  | .hbm, ⟨82, _⟩ => ⟨S10x100000x100, .f32⟩
  | .hbm, ⟨83, _⟩ => ⟨S_, .f32⟩
  | .hbm, ⟨84, _⟩ => ⟨S10x100, .f32⟩
  | .hbm, ⟨85, _⟩ => ⟨S10x100, .f32⟩
  | .hbm, ⟨86, _⟩ => ⟨S10x100, .f32⟩
  | .hbm, ⟨87, _⟩ => ⟨S10x100, .f32⟩
  | .hbm, ⟨88, _⟩ => ⟨S10x100, .f32⟩
  | .hbm, ⟨89, _⟩ => ⟨S_, .i32⟩
  | .hbm, ⟨90, _⟩ => ⟨S10x100, .i32⟩
  | .hbm, ⟨91, _⟩ => ⟨S10x100, .i1⟩
  | .hbm, ⟨92, _⟩ => ⟨S_, .f32⟩
  | .hbm, ⟨93, _⟩ => ⟨S_, .f32⟩
  | .hbm, ⟨94, _⟩ => ⟨S10x100, .f32⟩
  | .hbm, ⟨95, _⟩ => ⟨S10x100, .f32⟩
  | .hbm, ⟨96, _⟩ => ⟨S_, .f32⟩
  | .hbm, ⟨97, _⟩ => ⟨S100, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S1x1, .f32⟩
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_cst : Ref sig .tc := ⟨.hbm, 21, rfl⟩
abbrev main_call0_v3 : Ref sig .tc := ⟨.hbm, 22, rfl⟩
abbrev main_call0_v4 : Ref sig .tc := ⟨.hbm, 23, rfl⟩
abbrev main_call0_cst_0 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c : Ref sig .tc := ⟨.hbm, 59, rfl⟩
abbrev main_v32 : Ref sig .tc := ⟨.hbm, 60, rfl⟩
abbrev main_v33 : Ref sig .tc := ⟨.hbm, 61, rfl⟩
abbrev main_cst_4 : Ref sig .tc := ⟨.hbm, 62, rfl⟩
abbrev main_v34 : Ref sig .tc := ⟨.hbm, 63, rfl⟩
abbrev main_v35 : Ref sig .tc := ⟨.hbm, 64, rfl⟩
abbrev main_c_5 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_6 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_7 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v47 : Ref sig .tc := ⟨.hbm, 82, rfl⟩
abbrev main_cst_8 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_c_9 : Ref sig .tc := ⟨.hbm, 89, rfl⟩
abbrev main_v53 : Ref sig .tc := ⟨.hbm, 90, rfl⟩
abbrev main_v54 : Ref sig .tc := ⟨.hbm, 91, rfl⟩
abbrev main_cst_10 : Ref sig .tc := ⟨.hbm, 92, rfl⟩
abbrev main_call2_v0 : Ref sig .tc := ⟨.hbm, 93, rfl⟩
abbrev main_call2_v1 : Ref sig .tc := ⟨.hbm, 94, rfl⟩
abbrev main_v55 : Ref sig .tc := ⟨.hbm, 95, rfl⟩
abbrev main_cst_11 : Ref sig .tc := ⟨.hbm, 96, rfl⟩
abbrev main_v56 : Ref sig .tc := ⟨.hbm, 97, rfl⟩
abbrev main_cst_12 : Ref sig .tc := ⟨.hbm, 98, rfl⟩
abbrev main_v57 : Ref sig .tc := ⟨.hbm, 99, rfl⟩
abbrev main_cst_13 : Ref sig .tc := ⟨.hbm, 100, rfl⟩
abbrev main_v58 : Ref sig .tc := ⟨.hbm, 101, rfl⟩
abbrev main_v59 : Ref sig .tc := ⟨.hbm, 102, rfl⟩

abbrev nD : Nat := 1
abbrev τ : Topo := Topo.v7x

variable {F : FTy → Type} [FloatOps F]
-- ==== Proof.Rows.lean ====
/- Reading the eleven-row accumulator: one row loaded, one threshold loaded, and the contents after the ten row stores of
   one grid point. Nothing here depends on what the rows hold. -/
module

public import proofs.«01_k».proof.Proof.Gen.KernelIdeal.Value
public import Idealize.ShloMosaic.Lib.WritesUnit
public import Idealize.ShloMosaic.Lib.Pointwise
public import Idealize.ShloMosaic.Lib.Pipeline.ReadBack

@[expose] public section

noncomputable section

namespace Cert.KernelIdeal.Rows

open Idealize.ShloMosaic Idealize.ShloMosaic.TcCoe Idealize.SL.Sem
open Cert.KernelIdeal Cert.KernelIdeal.Gen

variable {F : FTy → Type} [FloatOps F]

/-- Row `k` of the accumulator, loaded alone, at column `c`. -/
theorem ld_row (k : ℕ) (hk : k < 11) (X : Vec F S11x100 .f32) (inb : ∀ a, (![k, 0] : Fin 2 → ℕ) a + S1x100.size a ≤ S11x100.size a)
    (c : Fin 100) :
    View.ld (Val := Elt F) (e' := .f32) X (Rect.unit (s := S11x100) ![k, 0] S1x100.size inb) (ix2 (0 : Fin 1) c)
      = X (ix2 (⟨k, hk⟩ : Fin 11) c) := by
  refine congrArg X (funext fun a => Fin.ext ?_)
  fin_cases a
  · show k + 1 * 0 = k; omega
  · show 0 + 1 * c.val = c.val; omega

/-- Threshold `k`, loaded alone. -/
theorem ld_bound (k : ℕ) (hk : k < 11) (X : Vec F S1x11 .f32) (inb : ∀ a, (![0, k] : Fin 2 → ℕ) a + S1x1.size a ≤ S1x11.size a)
    (j : S1x1.Idx) :
    View.ld (Val := Elt F) (e' := .f32) X (Rect.unit (s := S1x11) ![0, k] S1x1.size inb) j = X (ix2 (0 : Fin 1) (⟨k, hk⟩ : Fin 11)) := by
  have h0 : (j 0).val < 1 := (j 0).isLt
  have h1 : (j 1).val < 1 := (j 1).isLt
  refine congrArg X (funext fun a => Fin.ext ?_)
  fin_cases a
  · show 0 + 1 * (j 0).val = 0; omega
  · show k + 1 * (j 1).val = k; omega

/-- A piece that stores row `k` of the accumulator. -/
abbrev rowPiece (k : ℕ) (inb : ∀ a, (![k, 0] : Fin 2 → ℕ) a + S1x100.size a ≤ S11x100.size a) (w : Vec F S1x100 .f32) :
    View.Piece (Elt F) S11x100 .f32 :=
  ⟨Rect.unit (s := S11x100) ![k, 0] S1x100.size inb, w⟩

/-- The row just stored reads as what was stored. -/
theorem read_hit {sg : RefSig} {κ : Kind} {sp : Space} (v : View sg κ sp S11x100 .f32) (f : v.ty.Contents (Elt F)) (k : ℕ) (hk : k < 11)
    (inb : ∀ a, (![k, 0] : Fin 2 → ℕ) a + S1x100.size a ≤ S11x100.size a) (w : Vec F S1x100 .f32)
    (L : List (View.Piece (Elt F) S11x100 .f32)) (c : Fin 100) :
    v.read (Elt F) (v.writes (Elt F) f (rowPiece k inb w :: L)) (ix2 (⟨k, hk⟩ : Fin 11) c) = w (ix2 (0 : Fin 1) c) :=
  View.read_writes_cons_rows_of_mem v f inb w L _ (ix2 (0 : Fin 1) c) rfl rfl rfl

/-- Another row reads as before the store. -/
theorem read_miss {sg : RefSig} {κ : Kind} {sp : Space} (v : View sg κ sp S11x100 .f32) (f : v.ty.Contents (Elt F)) (k : ℕ)
    (inb : ∀ a, (![k, 0] : Fin 2 → ℕ) a + S1x100.size a ≤ S11x100.size a) (w : Vec F S1x100 .f32)
    (L : List (View.Piece (Elt F) S11x100 .f32)) (b : Fin 11) (hb : b.val ≠ k) (c : Fin 100) :
    v.read (Elt F) (v.writes (Elt F) f (rowPiece k inb w :: L)) (ix2 b c) = v.read (Elt F) (v.writes (Elt F) f L) (ix2 b c) :=
  View.read_writes_cons_rows_of_not_mem v f inb w L _ rfl rfl (by
    show b.val < k ∨ k + 1 ≤ b.val
    omega)

/-- After the ten row stores of a grid point the accumulator holds `G`, if each stored row is `G`'s row and the last row
    already was. -/
theorem read_rows {sg : RefSig} {κ : Kind} {sp : Space} (v : View sg κ sp S11x100 .f32) (f : v.ty.Contents (Elt F))
    (w0 w1 w2 w3 w4 w5 w6 w7 w8 w9 : Vec F S1x100 .f32) (L : List (View.Piece (Elt F) S11x100 .f32))
    (G : Fin 11 → Fin 100 → Elt F .f32)
    (h0 : ∀ c, w0 (ix2 (0 : Fin 1) c) = G 0 c) (h1 : ∀ c, w1 (ix2 (0 : Fin 1) c) = G 1 c) (h2 : ∀ c, w2 (ix2 (0 : Fin 1) c) = G 2 c)
    (h3 : ∀ c, w3 (ix2 (0 : Fin 1) c) = G 3 c) (h4 : ∀ c, w4 (ix2 (0 : Fin 1) c) = G 4 c) (h5 : ∀ c, w5 (ix2 (0 : Fin 1) c) = G 5 c)
    (h6 : ∀ c, w6 (ix2 (0 : Fin 1) c) = G 6 c) (h7 : ∀ c, w7 (ix2 (0 : Fin 1) c) = G 7 c) (h8 : ∀ c, w8 (ix2 (0 : Fin 1) c) = G 8 c)
    (h9 : ∀ c, w9 (ix2 (0 : Fin 1) c) = G 9 c)
    (h10 : ∀ c, v.read (Elt F) (v.writes (Elt F) f L) (ix2 (10 : Fin 11) c) = G 10 c) :
    v.read (Elt F) (v.writes (Elt F) f (rowPiece 9 inb_S11x100_S1x100_9_0 w9 :: rowPiece 8 inb_S11x100_S1x100_8_0 w8
      :: rowPiece 7 inb_S11x100_S1x100_7_0 w7 :: rowPiece 6 inb_S11x100_S1x100_6_0 w6 :: rowPiece 5 inb_S11x100_S1x100_5_0 w5
      :: rowPiece 4 inb_S11x100_S1x100_4_0 w4 :: rowPiece 3 inb_S11x100_S1x100_3_0 w3 :: rowPiece 2 inb_S11x100_S1x100_2_0 w2
      :: rowPiece 1 inb_S11x100_S1x100_1_0 w1 :: rowPiece 0 inb_S11x100_S1x100_0_0 w0 :: L))
      = fun y => G (y 0) (y 1) := by
  funext y
  obtain ⟨b, c, rfl⟩ : ∃ (b : Fin 11) (c : Fin 100), y = ix2 b c := ⟨y 0, y 1, by funext a; fin_cases a <;> rfl⟩
  show _ = G b c
  have hb := b.isLt
  obtain ⟨n, hn⟩ := b
  interval_cases n
  · iterate 9 rw [read_miss _ _ _ _ _ _ _ (by simp)]
    exact (read_hit v f 0 (by omega) _ w0 L c).trans (h0 c)
  · iterate 8 rw [read_miss _ _ _ _ _ _ _ (by simp)]
    exact (read_hit v f 1 (by omega) _ w1 _ c).trans (h1 c)
  · iterate 7 rw [read_miss _ _ _ _ _ _ _ (by simp)]
    exact (read_hit v f 2 (by omega) _ w2 _ c).trans (h2 c)
  · iterate 6 rw [read_miss _ _ _ _ _ _ _ (by simp)]
    exact (read_hit v f 3 (by omega) _ w3 _ c).trans (h3 c)
  · iterate 5 rw [read_miss _ _ _ _ _ _ _ (by simp)]
    exact (read_hit v f 4 (by omega) _ w4 _ c).trans (h4 c)
  · iterate 4 rw [read_miss _ _ _ _ _ _ _ (by simp)]
    exact (read_hit v f 5 (by omega) _ w5 _ c).trans (h5 c)
  · iterate 3 rw [read_miss _ _ _ _ _ _ _ (by simp)]
    exact (read_hit v f 6 (by omega) _ w6 _ c).trans (h6 c)
  · iterate 2 rw [read_miss _ _ _ _ _ _ _ (by simp)]
    exact (read_hit v f 7 (by omega) _ w7 _ c).trans (h7 c)
  · iterate 1 rw [read_miss _ _ _ _ _ _ _ (by simp)]
    exact (read_hit v f 8 (by omega) _ w8 _ c).trans (h8 c)
  · exact (read_hit v f 9 (by omega) _ w9 _ c).trans (h9 c)
  · iterate 10 rw [read_miss _ _ _ _ _ _ _ (by simp)]
    exact h10 c

end Cert.KernelIdeal.Rows

end
-- ==== Proof.Block.lean ====
/- What one grid point computes from its block of 4000 rows, read at one class: the probabilities of a row, the
   probability less the indicator of the label, and the amount each row of the accumulator grows by. -/
module

public import proofs.«01_k».proof.Proof.Rows

@[expose] public section

noncomputable section

namespace Cert.KernelIdeal.Block

open Idealize.ShloMosaic Idealize.ShloMosaic.TcCoe Idealize.SL.Sem
open Cert.KernelIdeal Cert.KernelIdeal.Gen Cert.KernelIdeal.Rows
open scoped BigOperators

/-- The probability of class `c` at row `r` of a block: the exponential, times the reciprocal of the row's sum of
    exponentials. -/
def prob (x : Vec Ideal S4000x100 .f32) (r : Fin 4000) (c : Fin 100) : Ideal .f32 :=
  Ideal.exp (x (ix2 r c)) * Ideal.div 1 (∑ k : Fin 100, Ideal.exp (x (ix2 r k)))

/-- The probability less one where `c` is the row's label. -/
def resid (x : Vec Ideal S4000x100 .f32) (l : Vec Ideal S4000x1 .i32) (r : Fin 4000) (c : Fin 100) : Ideal .f32 :=
  if l (ix2 r (0 : Fin 1)) = BitVec.ofNat 32 c.val then prob x r c - 1 else prob x r c

/-- What a block adds to row `b` of the accumulator at class `c`: row 0 takes every residual, rows 1 to 9 those whose
    probability lies above the row's boundary, row 10 nothing. -/
def gain (x : Vec Ideal S4000x100 .f32) (l : Vec Ideal S4000x1 .i32) (t : Vec Ideal S1x11 .f32) (b : Fin 11) (c : Fin 100) :
    Ideal .f32 :=
  if b = 0 then ∑ r : Fin 4000, resid x l r c
  else if b = 10 then 0
  else ∑ r : Fin 4000, if t (ix2 (0 : Fin 1) b) < prob x r c then resid x l r c else 0

/-- The kernel's probabilities. -/
theorem pay6_apply (x : Vec Ideal S4000x100 .f32) (r : Fin 4000) (c : Fin 100) :
    k0_pay6 (F := Ideal) x (ix2 r c) = prob x r c := by
  pointwise [k0_pay6, prob]

/-- The kernel's residuals. -/
theorem pay7_apply (x : Vec Ideal S4000x100 .f32) (l : Vec Ideal S4000x1 .i32) (r : Fin 4000) (c : Fin 100) :
    k0_pay7 (F := Ideal) x l (ix2 r c) = resid x l r c := by
  have h : k0_pay7 (F := Ideal) x l (ix2 r c)
      = Scalar.select (IntOp.cmpi .eq (l (ix2 r 0)) (BitVec.ofNat 32 c.val)) (k0_pay6 (F := Ideal) x (ix2 r c) - 1)
          (k0_pay6 (F := Ideal) x (ix2 r c)) := by
    pointwise [k0_pay7]
  rw [h, pay6_apply]
  unfold resid
  by_cases e : l (ix2 r (0 : Fin 1)) = BitVec.ofNat 32 c.val
  · simp [Scalar.select, IntOp.cmpi, e]
  · rw [if_neg e]
    simp [Scalar.select, IntOp.cmpi, beq_eq_false_iff_ne.mpr e]

/-- The vector of ones the kernel multiplies by. -/
theorem pay8_apply (r : Fin 4000) : k0_pay8 (F := Ideal) (ix2 (0 : Fin 1) r) = 1 := by
  pointwise [k0_pay8]

/-- Row 0's store: the accumulator plus the sum of the residuals. -/
theorem pay9_apply (x : Vec Ideal S4000x100 .f32) (l : Vec Ideal S4000x1 .i32) (v : Vec Ideal S1x100 .f32) (c : Fin 100) :
    k0_pay9 (F := Ideal) x l v (ix2 (0 : Fin 1) c) = v (ix2 (0 : Fin 1) c) + ∑ r : Fin 4000, resid x l r c := by
  have h : k0_pay9 (F := Ideal) x l v (ix2 (0 : Fin 1) c)
      = v (ix2 (0 : Fin 1) c) + ∑ r : Fin 4000, k0_pay8 (F := Ideal) (ix2 (0 : Fin 1) r) * k0_pay7 (F := Ideal) x l (ix2 r c) := by
    pointwise [k0_pay9]
  rw [h]
  simp only [pay8_apply, pay7_apply, one_mul]

/-- The sum of the residuals above a boundary, as every one of rows 1 to 9 computes it. -/
theorem gated_sum (x : Vec Ideal S4000x100 .f32) (l : Vec Ideal S4000x1 .i32) (t : Ideal .f32) (c : Fin 100) :
    (∑ r : Fin 4000, k0_pay8 (F := Ideal) (ix2 (0 : Fin 1) r)
        * (if t < k0_pay6 (F := Ideal) x (ix2 r c) then k0_pay7 (F := Ideal) x l (ix2 r c) else 0))
      = ∑ r : Fin 4000, if t < prob x r c then resid x l r c else 0 := by
  simp only [pay8_apply, pay6_apply, pay7_apply, one_mul]

/-- Row 1's store. -/
theorem pay10_apply (x : Vec Ideal S4000x100 .f32) (l : Vec Ideal S4000x1 .i32) (t : Ideal .f32) (v : Vec Ideal S1x100 .f32)
    (c : Fin 100) :
    k0_pay11 (F := Ideal) (k0_pay10 (F := Ideal) x l t v) (ix2 (0 : Fin 1) c)
      = v (ix2 (0 : Fin 1) c) + ∑ r : Fin 4000, if t < prob x r c then resid x l r c else 0 := by
  rw [← gated_sum]
  pointwise [k0_pay11, k0_pay10]

/-- Row 2's store. -/
theorem pay12_apply (x : Vec Ideal S4000x100 .f32) (l : Vec Ideal S4000x1 .i32) (t : Ideal .f32) (v : Vec Ideal S1x100 .f32)
    (c : Fin 100) :
    k0_pay12 (F := Ideal) (k0_pay6 (F := Ideal) x) (k0_pay7 (F := Ideal) x l) (k0_pay8 (F := Ideal)) t v (ix2 (0 : Fin 1) c)
      = v (ix2 (0 : Fin 1) c) + ∑ r : Fin 4000, if t < prob x r c then resid x l r c else 0 := by
  rw [← gated_sum]
  pointwise [k0_pay12]

/-- Row 3's store. -/
theorem pay13_apply (x : Vec Ideal S4000x100 .f32) (l : Vec Ideal S4000x1 .i32) (t : Ideal .f32) (v : Vec Ideal S1x100 .f32)
    (c : Fin 100) :
    k0_pay13 (F := Ideal) (k0_pay6 (F := Ideal) x) (k0_pay7 (F := Ideal) x l) (k0_pay8 (F := Ideal)) t v (ix2 (0 : Fin 1) c)
      = v (ix2 (0 : Fin 1) c) + ∑ r : Fin 4000, if t < prob x r c then resid x l r c else 0 := by
  rw [← gated_sum]
  pointwise [k0_pay13]

/-- Row 4's store. -/
theorem pay14_apply (x : Vec Ideal S4000x100 .f32) (l : Vec Ideal S4000x1 .i32) (t : Ideal .f32) (v : Vec Ideal S1x100 .f32)
    (c : Fin 100) :
    k0_pay15 (F := Ideal) (k0_pay14 (F := Ideal) (k0_pay6 (F := Ideal) x) (k0_pay7 (F := Ideal) x l) (k0_pay8 (F := Ideal)) t v)
        (ix2 (0 : Fin 1) c)
      = v (ix2 (0 : Fin 1) c) + ∑ r : Fin 4000, if t < prob x r c then resid x l r c else 0 := by
  rw [← gated_sum]
  pointwise [k0_pay15, k0_pay14]

/-- Row 5's store. -/
theorem pay16_apply (x : Vec Ideal S4000x100 .f32) (l : Vec Ideal S4000x1 .i32) (t : Ideal .f32) (v : Vec Ideal S1x100 .f32)
    (c : Fin 100) :
    k0_pay16 (F := Ideal) (k0_pay6 (F := Ideal) x) (k0_pay7 (F := Ideal) x l) (k0_pay8 (F := Ideal)) t v (ix2 (0 : Fin 1) c)
      = v (ix2 (0 : Fin 1) c) + ∑ r : Fin 4000, if t < prob x r c then resid x l r c else 0 := by
  rw [← gated_sum]
  pointwise [k0_pay16]

/-- Row 6's store. -/
theorem pay17_apply (x : Vec Ideal S4000x100 .f32) (l : Vec Ideal S4000x1 .i32) (t : Ideal .f32) (v : Vec Ideal S1x100 .f32)
    (c : Fin 100) :
    k0_pay17 (F := Ideal) (k0_pay6 (F := Ideal) x) (k0_pay7 (F := Ideal) x l) (k0_pay8 (F := Ideal)) t v (ix2 (0 : Fin 1) c)
      = v (ix2 (0 : Fin 1) c) + ∑ r : Fin 4000, if t < prob x r c then resid x l r c else 0 := by
  rw [← gated_sum]
  pointwise [k0_pay17]

/-- Row 7's store. -/
theorem pay18_apply (x : Vec Ideal S4000x100 .f32) (l : Vec Ideal S4000x1 .i32) (t : Ideal .f32) (v : Vec Ideal S1x100 .f32)
    (c : Fin 100) :
    k0_pay1 (F := Ideal) (k0_pay18 (F := Ideal) (k0_pay6 (F := Ideal) x) (k0_pay7 (F := Ideal) x l) (k0_pay8 (F := Ideal)) t v)
        (ix2 (0 : Fin 1) c)
      = v (ix2 (0 : Fin 1) c) + ∑ r : Fin 4000, if t < prob x r c then resid x l r c else 0 := by
  rw [← gated_sum]
  pointwise [k0_pay1, k0_pay18]

/-- Row 8's store. -/
theorem pay2_apply (x : Vec Ideal S4000x100 .f32) (l : Vec Ideal S4000x1 .i32) (t : Ideal .f32) (v : Vec Ideal S1x100 .f32)
    (c : Fin 100) :
    k0_pay2 (F := Ideal) (k0_pay6 (F := Ideal) x) (k0_pay7 (F := Ideal) x l) (k0_pay8 (F := Ideal)) t v (ix2 (0 : Fin 1) c)
      = v (ix2 (0 : Fin 1) c) + ∑ r : Fin 4000, if t < prob x r c then resid x l r c else 0 := by
  rw [← gated_sum]
  pointwise [k0_pay2]

/-- Row 9's store. -/
theorem pay3_apply (x : Vec Ideal S4000x100 .f32) (l : Vec Ideal S4000x1 .i32) (t : Ideal .f32) (v : Vec Ideal S1x100 .f32)
    (c : Fin 100) :
    k0_pay3 (F := Ideal) (k0_pay6 (F := Ideal) x) (k0_pay7 (F := Ideal) x l) (k0_pay8 (F := Ideal)) t v (ix2 (0 : Fin 1) c)
      = v (ix2 (0 : Fin 1) c) + ∑ r : Fin 4000, if t < prob x r c then resid x l r c else 0 := by
  rw [← gated_sum]
  pointwise [k0_pay3]

/-- The zero fill of the accumulator. -/
theorem pay5_apply (y : S11x100.Idx) : k0_pay5 (F := Ideal) y = 0 := by
  obtain ⟨b, c, rfl⟩ : ∃ (b : Fin 11) (c : Fin 100), y = ix2 b c := ⟨y 0, y 1, by funext a; fin_cases a <;> rfl⟩
  pointwise [k0_pay5]

/-- The output from the finished accumulator: the distances of adjacent rows, summed, over ten million. -/
theorem pay4_apply (v : Vec Ideal S11x100 .f32) (y : S1x1.Idx) :
    k0_pay4 (F := Ideal) v y
      = Ideal.div (∑ b : Fin 10, ∑ c : Fin 100, FloatOps.absf (F := Ideal) (φ := .f32) (v (ix2 b.castSucc c) - v (ix2 b.succ c)))
          (Ideal.ofBits .f32 0x4B189680#32) := by
  obtain rfl : y = ix2 (0 : Fin 1) (0 : Fin 1) := funext fun a => by
    fin_cases a
    · exact Subsingleton.elim (α := Fin 1) _ _
    · exact Subsingleton.elim (α := Fin 1) _ _
  have h : k0_pay4 (F := Ideal) v (ix2 (0 : Fin 1) (0 : Fin 1))
      = Ideal.div (∑ b : Fin 10, ∑ c : Fin 100, FloatOps.absf (F := Ideal) (φ := .f32)
          (v (ix2 (⟨b.val, by omega⟩ : Fin 11) c) - v (ix2 (⟨1 + b.val, by omega⟩ : Fin 11) c)))
          (Ideal.ofBits .f32 0x4B189680#32) := by
    pointwise [k0_pay4]
  rw [h]
  refine congrArg (Ideal.div · _) (Finset.sum_congr rfl fun b _ => Finset.sum_congr rfl fun c _ => ?_)
  have hs : (⟨1 + b.val, by omega⟩ : Fin 11) = b.succ := Fin.ext (by simp [Nat.add_comm])
  rw [hs]; rfl

end Cert.KernelIdeal.Block

end
-- ==== Proof.Step.lean ====
/- What one grid point leaves in the accumulator: what was there plus the block's gain; at the first point, the gain alone.
   At the last point the output is read off the accumulator. -/
module

public import proofs.«01_k».proof.Proof.Block

@[expose] public section

noncomputable section

namespace Cert.KernelIdeal.Step

open Idealize.ShloMosaic Idealize.ShloMosaic.TcCoe Idealize.SL.Sem
open Cert.KernelIdeal Cert.KernelIdeal.Gen Cert.KernelIdeal.Rows Cert.KernelIdeal.Block

/-- The offsets of a whole-array access are zero. -/
theorem hz : (![0, 0] : Fin 2 → ℕ) = fun _ => 0 := funext fun a => by fin_cases a <;> rfl

/-- The same at each axis. -/
theorem hz0 : ∀ a, (![0, 0] : Fin 2 → ℕ) a = 0 := fun a => congrFun hz a

/-- A row loaded from the freshly zeroed accumulator. -/
theorem ld_zero_row (k : ℕ) (hk : k < 11) (inb : ∀ a, (![k, 0] : Fin 2 → ℕ) a + S1x100.size a ≤ S11x100.size a) (q : Fin 100) :
    View.ld (Val := Elt Ideal) (e' := .f32) (k0_pay5 (F := Ideal)) (Rect.unit (s := S11x100) ![k, 0] S1x100.size inb)
      (ix2 (0 : Fin 1) q) = (0 : Ideal .f32) := by
  exact (ld_row (F := Ideal) k hk (k0_pay5 (F := Ideal)) inb q).trans (pay5_apply _)

/-- The ten row stores of a grid point: each row the store read (`r0` to `r9`) grows by its gain, each boundary (`t1` to `t9`)
    being the row's own; the last row keeps what it held. -/
theorem store_rows {sg : RefSig} {κ : Kind} {sp : Space} (v : View sg κ sp S11x100 .f32) (f : v.ty.Contents (Elt Ideal))
    (x : Vec Ideal S4000x100 .f32) (l : Vec Ideal S4000x1 .i32) (t : Vec Ideal S1x11 .f32) (base : Fin 11 → Fin 100 → Ideal .f32)
    (r0 r1 r2 r3 r4 r5 r6 r7 r8 r9 : Vec Ideal S1x100 .f32) (t1 t2 t3 t4 t5 t6 t7 t8 t9 : Ideal .f32)
    (L : List (View.Piece (Elt Ideal) S11x100 .f32))
    (h0 : ∀ q, r0 (ix2 (0 : Fin 1) q) = base 0 q)
    (h1 : ∀ q, r1 (ix2 (0 : Fin 1) q) = base 1 q)
    (h2 : ∀ q, r2 (ix2 (0 : Fin 1) q) = base 2 q)
    (h3 : ∀ q, r3 (ix2 (0 : Fin 1) q) = base 3 q)
    (h4 : ∀ q, r4 (ix2 (0 : Fin 1) q) = base 4 q)
    (h5 : ∀ q, r5 (ix2 (0 : Fin 1) q) = base 5 q)
    (h6 : ∀ q, r6 (ix2 (0 : Fin 1) q) = base 6 q)
    (h7 : ∀ q, r7 (ix2 (0 : Fin 1) q) = base 7 q)
    (h8 : ∀ q, r8 (ix2 (0 : Fin 1) q) = base 8 q)
    (h9 : ∀ q, r9 (ix2 (0 : Fin 1) q) = base 9 q)
    (h10 : ∀ q, v.read (Elt Ideal) (v.writes (Elt Ideal) f L) (ix2 (10 : Fin 11) q) = base 10 q)
    (e1 : t1 = t (ix2 (0 : Fin 1) (1 : Fin 11)))
    (e2 : t2 = t (ix2 (0 : Fin 1) (2 : Fin 11)))
    (e3 : t3 = t (ix2 (0 : Fin 1) (3 : Fin 11)))
    (e4 : t4 = t (ix2 (0 : Fin 1) (4 : Fin 11)))
    (e5 : t5 = t (ix2 (0 : Fin 1) (5 : Fin 11)))
    (e6 : t6 = t (ix2 (0 : Fin 1) (6 : Fin 11)))
    (e7 : t7 = t (ix2 (0 : Fin 1) (7 : Fin 11)))
    (e8 : t8 = t (ix2 (0 : Fin 1) (8 : Fin 11)))
    (e9 : t9 = t (ix2 (0 : Fin 1) (9 : Fin 11))) :
    v.read (Elt Ideal) (v.writes (Elt Ideal) f (
      rowPiece (F := Ideal) 9 inb_S11x100_S1x100_9_0 (k0_pay3 (F := Ideal) (k0_pay6 (F := Ideal) x) (k0_pay7 (F := Ideal) x l) (k0_pay8 (F := Ideal)) t9 r9)
      :: rowPiece (F := Ideal) 8 inb_S11x100_S1x100_8_0 (k0_pay2 (F := Ideal) (k0_pay6 (F := Ideal) x) (k0_pay7 (F := Ideal) x l) (k0_pay8 (F := Ideal)) t8 r8)
      :: rowPiece (F := Ideal) 7 inb_S11x100_S1x100_7_0 (k0_pay1 (F := Ideal) (k0_pay18 (F := Ideal) (k0_pay6 (F := Ideal) x) (k0_pay7 (F := Ideal) x l) (k0_pay8 (F := Ideal)) t7 r7))
      :: rowPiece (F := Ideal) 6 inb_S11x100_S1x100_6_0 (k0_pay17 (F := Ideal) (k0_pay6 (F := Ideal) x) (k0_pay7 (F := Ideal) x l) (k0_pay8 (F := Ideal)) t6 r6)
      :: rowPiece (F := Ideal) 5 inb_S11x100_S1x100_5_0 (k0_pay16 (F := Ideal) (k0_pay6 (F := Ideal) x) (k0_pay7 (F := Ideal) x l) (k0_pay8 (F := Ideal)) t5 r5)
      :: rowPiece (F := Ideal) 4 inb_S11x100_S1x100_4_0 (k0_pay15 (F := Ideal) (k0_pay14 (F := Ideal) (k0_pay6 (F := Ideal) x) (k0_pay7 (F := Ideal) x l) (k0_pay8 (F := Ideal)) t4 r4))
      :: rowPiece (F := Ideal) 3 inb_S11x100_S1x100_3_0 (k0_pay13 (F := Ideal) (k0_pay6 (F := Ideal) x) (k0_pay7 (F := Ideal) x l) (k0_pay8 (F := Ideal)) t3 r3)
      :: rowPiece (F := Ideal) 2 inb_S11x100_S1x100_2_0 (k0_pay12 (F := Ideal) (k0_pay6 (F := Ideal) x) (k0_pay7 (F := Ideal) x l) (k0_pay8 (F := Ideal)) t2 r2)
      :: rowPiece (F := Ideal) 1 inb_S11x100_S1x100_1_0 (k0_pay11 (F := Ideal) (k0_pay10 (F := Ideal) x l t1 r1))
      :: rowPiece (F := Ideal) 0 inb_S11x100_S1x100_0_0 (k0_pay9 (F := Ideal) x l r0)
      :: L))
      = fun y => base (y 0) (y 1) + gain x l t (y 0) (y 1) := by
  subst e1 e2 e3 e4 e5 e6 e7 e8 e9
  refine read_rows (F := Ideal) v f _ _ _ _ _ _ _ _ _ _ L (fun b q => base b q + gain x l t b q) ?_ ?_ ?_ ?_ ?_ ?_ ?_ ?_ ?_ ?_ ?_
  · intro q; rw [pay9_apply, h0]; rfl
  · intro q; rw [pay10_apply, h1]; rfl
  · intro q; rw [pay12_apply, h2]; rfl
  · intro q; rw [pay13_apply, h3]; rfl
  · intro q; rw [pay14_apply, h4]; rfl
  · intro q; rw [pay16_apply, h5]; rfl
  · intro q; rw [pay17_apply, h6]; rfl
  · intro q; rw [pay18_apply, h7]; rfl
  · intro q; rw [pay2_apply, h8]; rfl
  · intro q; rw [pay3_apply, h9]; rfl
  · intro q; rw [h10]; exact (add_zero _).symm

/-- An index of the accumulator is its row and its class. -/
theorem ix2_eta (y : S11x100.Idx) : y = ix2 (y 0 : Fin 11) (y 1 : Fin 100) := by funext a; fin_cases a <;> rfl

variable (c : Dev nD) (i : grid0.Coords)
  (a1 : Memref sig .tc .vmem S4000x100 .f32) (h1 : a1.IsWhole) (a2 : Memref sig .tc .vmem S4000x1 .i32) (h2 : a2.IsWhole)
  (a3 : Memref sig .tc .smem S1x11 .f32) (h3 : a3.IsWhole) (a4 : Memref sig .tc .vmem S1x1 .f32) (h4 : a4.IsWhole)
  (a5 : Memref sig .tc .vmem S11x100 .f32) (h5 : a5.IsWhole)
  (x : Vec Ideal S4000x100 .f32) (l : Vec Ideal S4000x1 .i32) (t : Vec Ideal S1x11 .f32) (xs : Vec Ideal S11x100 .f32)

/-- A grid point after the first and before the last adds the block's gain to the accumulator. -/
theorem sout_B (hc0 : ¬cond0_0 i) (hc1 : ¬cond0_1 i) :
    sout0_B_0 (F := Ideal) c i a1 h1 a2 h2 a3 h3 a4 h4 a5 h5 hc0 hc1 x l t xs = fun y => xs y + gain x l t (y 0) (y 1) := by
  unfold sout0_B_0 kernelRun0_B
  dsimp only
  sl_unfold_words
  simp only [View.readAt_eq_ld, h1.read_unread, h2.read_unread, h3.read_unread, h5.read_unread, View.ld_unit_zero (S := S4000x100) hz,
    View.ld_unit_zero (S := S4000x1) hz]
  refine (store_rows _ _ x l t (fun b q => xs (ix2 b q)) _ _ _ _ _ _ _ _ _ _ _ _ _ _ _ _ _ _ _ [] (ld_row 0 (by omega) xs _)
    (ld_row 1 (by omega) xs _) (ld_row 2 (by omega) xs _) (ld_row 3 (by omega) xs _) (ld_row 4 (by omega) xs _)
    (ld_row 5 (by omega) xs _) (ld_row 6 (by omega) xs _) (ld_row 7 (by omega) xs _) (ld_row 8 (by omega) xs _)
    (ld_row 9 (by omega) xs _) (fun q => congrFun (h5.read_unread xs) _) (ld_bound 1 (by omega) t _ _) (ld_bound 2 (by omega) t _ _)
    (ld_bound 3 (by omega) t _ _) (ld_bound 4 (by omega) t _ _) (ld_bound 5 (by omega) t _ _) (ld_bound 6 (by omega) t _ _)
    (ld_bound 7 (by omega) t _ _) (ld_bound 8 (by omega) t _ _) (ld_bound 9 (by omega) t _ _)).trans (funext fun y => ?_)
  exact congrArg (· + gain x l t (y 0) (y 1)) (congrArg xs (ix2_eta y).symm)

/-- So does the last grid point. -/
theorem sout_C (hc0 : ¬cond0_0 i) (hc1 : cond0_1 i) :
    sout0_C_0 (F := Ideal) c i a1 h1 a2 h2 a3 h3 a4 h4 a5 h5 hc0 hc1 x l t xs = fun y => xs y + gain x l t (y 0) (y 1) := by
  unfold sout0_C_0 kernelRun0_C
  dsimp only
  sl_unfold_words
  simp only [View.readAt_eq_ld, h1.read_unread, h2.read_unread, h3.read_unread, h5.read_unread, View.ld_unit_zero (S := S4000x100) hz,
    View.ld_unit_zero (S := S4000x1) hz]
  refine (store_rows _ _ x l t (fun b q => xs (ix2 b q)) _ _ _ _ _ _ _ _ _ _ _ _ _ _ _ _ _ _ _ [] (ld_row 0 (by omega) xs _)
    (ld_row 1 (by omega) xs _) (ld_row 2 (by omega) xs _) (ld_row 3 (by omega) xs _) (ld_row 4 (by omega) xs _)
    (ld_row 5 (by omega) xs _) (ld_row 6 (by omega) xs _) (ld_row 7 (by omega) xs _) (ld_row 8 (by omega) xs _)
    (ld_row 9 (by omega) xs _) (fun q => congrFun (h5.read_unread xs) _) (ld_bound 1 (by omega) t _ _) (ld_bound 2 (by omega) t _ _)
    (ld_bound 3 (by omega) t _ _) (ld_bound 4 (by omega) t _ _) (ld_bound 5 (by omega) t _ _) (ld_bound 6 (by omega) t _ _)
    (ld_bound 7 (by omega) t _ _) (ld_bound 8 (by omega) t _ _) (ld_bound 9 (by omega) t _ _)).trans (funext fun y => ?_)
  exact congrArg (· + gain x l t (y 0) (y 1)) (congrArg xs (ix2_eta y).symm)

/-- The last grid point's output is the distances of adjacent rows of the accumulator it leaves. -/
theorem out_C (hc0 : ¬cond0_0 i) (hc1 : cond0_1 i) :
    out0_C_3 (F := Ideal) c i a1 h1 a2 h2 a3 h3 a4 h4 a5 h5 hc0 hc1 x l t xs
      = k0_pay4 (F := Ideal) (sout0_C_0 (F := Ideal) c i a1 h1 a2 h2 a3 h3 a4 h4 a5 h5 hc0 hc1 x l t xs) := by
  unfold out0_C_3
  rw [View.read_writes_eq_canon _ _ _ (cover0_C_3 c i a1 h1 a2 h2 a3 h3 a4 h4 a5 h5 hc0 hc1 x l t xs)]
  unfold sout0_C_0 kernelRun0_C
  dsimp only
  rw [View.canon_unit_zero hz]
  sl_unfold_words
  simp only [View.readAt_eq_ld, View.ld_unit_zero (S := S11x100) hz]

/-- The first grid point zeroes the accumulator and adds the block's gain. -/
theorem sout_A (hc0 : cond0_0 i) (hc1 : ¬cond0_1 i) :
    sout0_A_0 (F := Ideal) c i a1 h1 a2 h2 a3 h3 a4 h4 a5 h5 hc0 hc1 x l t = fun y => 0 + gain x l t (y 0) (y 1) := by
  unfold sout0_A_0 kernelRun0_A
  dsimp only
  sl_unfold_words
  simp only [View.readAt_eq_ld, h1.read_unread, h2.read_unread, h3.read_unread, View.ld_unit_zero (S := S4000x100) hz,
    View.ld_unit_zero (S := S4000x1) hz]
  refine (store_rows _ _ x l t (fun _ _ => 0) _ _ _ _ _ _ _ _ _ _ _ _ _ _ _ _ _ _ _ _ ?_ ?_ ?_ ?_ ?_ ?_ ?_ ?_ ?_ ?_ ?_
    (ld_bound 1 (by omega) t _ _) (ld_bound 2 (by omega) t _ _)
    (ld_bound 3 (by omega) t _ _) (ld_bound 4 (by omega) t _ _) (ld_bound 5 (by omega) t _ _) (ld_bound 6 (by omega) t _ _)
    (ld_bound 7 (by omega) t _ _) (ld_bound 8 (by omega) t _ _) (ld_bound 9 (by omega) t _ _))
  · intro q
    rw [View.readCov_fill _ _ _ _ _ hz0]
    exact ld_zero_row 0 (by omega) _ q
  · intro q
    iterate 1 rw [View.readCov_skip _ _ _ _ _ (by rfl)]
    rw [View.readCov_fill _ _ _ _ _ hz0]
    exact ld_zero_row 1 (by omega) _ q
  · intro q
    iterate 2 rw [View.readCov_skip _ _ _ _ _ (by rfl)]
    rw [View.readCov_fill _ _ _ _ _ hz0]
    exact ld_zero_row 2 (by omega) _ q
  · intro q
    iterate 3 rw [View.readCov_skip _ _ _ _ _ (by rfl)]
    rw [View.readCov_fill _ _ _ _ _ hz0]
    exact ld_zero_row 3 (by omega) _ q
  · intro q
    iterate 4 rw [View.readCov_skip _ _ _ _ _ (by rfl)]
    rw [View.readCov_fill _ _ _ _ _ hz0]
    exact ld_zero_row 4 (by omega) _ q
  · intro q
    iterate 5 rw [View.readCov_skip _ _ _ _ _ (by rfl)]
    rw [View.readCov_fill _ _ _ _ _ hz0]
    exact ld_zero_row 5 (by omega) _ q
  · intro q
    iterate 6 rw [View.readCov_skip _ _ _ _ _ (by rfl)]
    rw [View.readCov_fill _ _ _ _ _ hz0]
    exact ld_zero_row 6 (by omega) _ q
  · intro q
    iterate 7 rw [View.readCov_skip _ _ _ _ _ (by rfl)]
    rw [View.readCov_fill _ _ _ _ _ hz0]
    exact ld_zero_row 7 (by omega) _ q
  · intro q
    iterate 8 rw [View.readCov_skip _ _ _ _ _ (by rfl)]
    rw [View.readCov_fill _ _ _ _ _ hz0]
    exact ld_zero_row 8 (by omega) _ q
  · intro q
    iterate 9 rw [View.readCov_skip _ _ _ _ _ (by rfl)]
    rw [View.readCov_fill _ _ _ _ _ hz0]
    exact ld_zero_row 9 (by omega) _ q
  · intro q
    rw [View.read_writes_eq_canon _ _ _ (fun y => ⟨_, List.mem_singleton.mpr rfl, View.mem_set_unit_zero hz inb_S11x100_S11x100_0_0 y⟩),
      View.canon_cons_unit_zero (S := S11x100) hz]
    exact pay5_apply _

end Cert.KernelIdeal.Step

end
-- ==== Proof.Reals.lean ====
/- The extended reals at real arguments: sums, quotients, exponentials, absolute values and the constants the programs use
   are the real ones. -/
module

public import Idealize.ShloMosaic.Lib.IdealHost
public import Idealize.ShloMosaic.PureOps.Ideal.Laws

@[expose] public section

noncomputable section

namespace Cert.Reals

open Idealize.ShloMosaic
open scoped BigOperators

/-- The word of ten is ten. -/
theorem word_ten : Ideal.ofBits .f32 0x41200000#32 = ((10 : ℝ) : EReal) := by
  simp [Ideal.ofBits, Ideal.ieee, -EReal.coe_mul]; norm_num

/-- The word of a hundred is a hundred. -/
theorem word_hundred : Ideal.ofBits .f32 0x42C80000#32 = ((100 : ℝ) : EReal) := by
  simp [Ideal.ofBits, Ideal.ieee, -EReal.coe_mul]; norm_num

/-- The word of the number of rows. -/
theorem word_rows : Ideal.ofBits .f32 0x47C35000#32 = ((100000 : ℝ) : EReal) := by
  simp [Ideal.ofBits, Ideal.ieee, -EReal.coe_mul]; norm_num

/-- The word of the number of entries. -/
theorem word_entries : Ideal.ofBits .f32 0x4B189680#32 = ((10000000 : ℝ) : EReal) := by
  simp [Ideal.ofBits, Ideal.ieee, -EReal.coe_mul]

/-- The word of positive infinity. -/
theorem word_top : Ideal.ofBits .f32 0x7F800000#32 = (⊤ : EReal) := by
  simp [Ideal.ofBits, Ideal.ieee]

/-- The word of negative infinity. -/
theorem word_bot : Ideal.ofBits .f32 0xFF800000#32 = (⊥ : EReal) := by
  simp [Ideal.ofBits, Ideal.ieee]

/-- The exponential of a real. -/
theorem exp_coe (r : ℝ) : Ideal.exp (r : EReal) = ((Real.exp r : ℝ) : EReal) := rfl

/-- A quotient of reals, the divisor not zero. -/
theorem div_coe_coe (a : ℝ) {b : ℝ} (h : b ≠ 0) : Ideal.div (a : EReal) (b : EReal) = ((a / b : ℝ) : EReal) := by
  rw [Ideal.div_coe h, ← EReal.coe_mul]
  congr 1
  rw [mul_one_div]

/-- A product with a reciprocal, of reals. -/
theorem mul_div_one (a : ℝ) {b : ℝ} (h : b ≠ 0) : (a : EReal) * Ideal.div 1 (b : EReal) = ((a / b : ℝ) : EReal) := by
  rw [Ideal.mul_one_div (by exact_mod_cast h), div_coe_coe a h]

/-- A sum of reals. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The absolute value of a real. -/
theorem abs_coe (r : ℝ) : FloatOps.absf (F := Ideal) (φ := .f32) (r : EReal) = ((|r| : ℝ) : EReal) := by
  show max (r : EReal) (-(r : EReal)) = _
  rw [← EReal.coe_neg]
  exact (EReal.coe_strictMono.monotone.map_max).symm

/-- A small natural number as a signed word, exactly. -/
theorem sitofp_coe (n : ℕ) (h : n < 2 ^ 31) :
    FloatOps.sitofp (F := Ideal) .f32 (BitVec.ofNat 32 n) = (((n : ℝ)) : EReal) := by
  show (((BitVec.ofNat 32 n).toInt : ℝ) : EReal) = _
  have e : (BitVec.ofNat 32 n).toInt = (n : ℤ) := by
    have ht : (BitVec.ofNat 32 n).toNat = n := by rw [BitVec.toNat_ofNat]; omega
    rw [BitVec.toInt_eq_toNat_of_lt (by rw [ht]; omega), ht]
  rw [e]; norm_cast

/-- A truth value's bit is one when it is true. -/
theorem bit_one {b : Bool} : BitVec.ofBool b = 1#1 ↔ b = true := by cases b <;> decide

/-- A choice between reals. -/
theorem ite_coe (p : Prop) [Decidable p] (a b : ℝ) :
    (if p then (a : EReal) else (b : EReal)) = ((if p then a else b : ℝ) : EReal) := by split <;> rfl

end Cert.Reals

end
-- ==== Proof.Bounds.lean ====
/- The eleven boundaries as the host computes them: tenths, from nought to one. -/
module

public import proofs.«01_k».proof.Proof.Gen.KernelIdeal.Value
public import proofs.«01_k».proof.Proof.Reals
public import Idealize.ShloMosaic.Lib.Pointwise

@[expose] public section

noncomputable section

namespace Cert.KernelIdeal.Bounds

open Idealize.ShloMosaic Idealize.ShloMosaic.TcCoe Idealize.SL.Sem
open Cert.KernelIdeal Cert.KernelIdeal.Gen

/-- Tenths: the positions 0 to 9 over ten. -/
def tenths : Vec Ideal S10 .f32 :=
  Host.divf (sitofp .f32 (iotaInDim S10 32 0)) (broadcastInDim S10 ![] bcast_S_S10 (constant (F := Ideal) S_ .f32 0x41200000#32))

/-- The first ten boundaries: interpolated between zero and one. -/
def ten : Vec Ideal S10 .f32 :=
  addf
    (mulf (broadcastInDim S10 ![0] bcast_S1_S10_0 (shapeCast S1 (constant (F := Ideal) S_ .f32 0x00000000#32) shapeCasts_S_S1))
      (subf (broadcastInDim S10 ![] bcast_S_S10 (constant (F := Ideal) S_ .f32 0x3F800000#32)) tenths))
    (mulf (broadcastInDim S10 ![0] bcast_S1_S10_0 (shapeCast S1 (constant (F := Ideal) S_ .f32 0x3F800000#32) shapeCasts_S_S1)) tenths)

/-- The last boundary: one. -/
def last : Vec Ideal S1 .f32 := broadcastInDim S1 ![] bcast_S_S1 (constant (F := Ideal) S_ .f32 0x3F800000#32)

/-- The eleven boundaries. -/
def lin : Vec Ideal S11 .f32 := concatenate S11 0 [⟨S10, ten⟩, ⟨S1, last⟩] concatenates_S10_S1_S11_d0

/-- Each of the first ten boundaries, before they are joined with the last, is so many tenths. -/
theorem ten_apply (b : Fin 10) : ten (ix1 b) = ((b.val / 10 : ℝ) : EReal) := by
  have h : ten (ix1 b) = 0 * (1 - Ideal.div (FloatOps.sitofp (F := Ideal) .f32 (BitVec.ofNat 32 b.val)) (Ideal.ofBits .f32 0x41200000#32))
      + Ideal.div (FloatOps.sitofp (F := Ideal) .f32 (BitVec.ofNat 32 b.val)) (Ideal.ofBits .f32 0x41200000#32) := by
    pointwise [ten, tenths]
  rw [h, zero_mul, zero_add, Reals.sitofp_coe _ (by omega), Reals.word_ten, Reals.div_coe_coe _ (by norm_num)]

/-- Each of the first ten boundaries is so many tenths. -/
theorem lin_castSucc (b : Fin 10) : lin (ix1 b.castSucc) = ((b.val / 10 : ℝ) : EReal) := by
  have h : lin (ix1 b.castSucc) = if h : b.castSucc.val < 10 then ten (ix1 (⟨b.castSucc.val, h⟩ : Fin 10))
      else last (ix1 (⟨b.castSucc.val - 10, by omega⟩ : Fin 1)) := by
    pointwise [lin]
  have hb : b.castSucc.val < 10 := b.isLt
  rw [h, dif_pos hb]
  exact ten_apply b

/-- The last boundary is one. -/
theorem lin_last : lin (ix1 (10 : Fin 11)) = ((1 : ℝ) : EReal) := by
  have h : lin (ix1 (10 : Fin 11)) = last (ix1 (0 : Fin 1)) := by
    pointwise [lin]
  have h1 : last (ix1 (0 : Fin 1)) = 1 := by
    pointwise [last]
  rw [h, h1, EReal.coe_one]

/-- Boundary `b` is `b` tenths. -/
theorem lin_apply (b : Fin 11) : lin (ix1 b) = ((b.val / 10 : ℝ) : EReal) := by
  refine Fin.lastCases ?_ (fun b => ?_) b
  · exact lin_last.trans (by norm_num)
  · exact lin_castSucc b

end Cert.KernelIdeal.Bounds

end
-- ==== Proof.Model.lean ====
/- The result in real numbers: class probabilities, the residuals of each bin, and the sum of their absolute values. -/
module

public import Mathlib.Analysis.SpecialFunctions.Exp
public import Mathlib.Algebra.BigOperators.Fin
public import Mathlib.Algebra.BigOperators.Field

@[expose] public section

noncomputable section

namespace Cert.Model

open scoped BigOperators

variable (x : Fin 100000 → Fin 100 → ℝ) (l : Fin 100000 → BitVec 32)

/-- A row's sum of exponentials. -/
def S (k : Fin 100000) : ℝ := ∑ j : Fin 100, Real.exp (x k j)

/-- A sum of exponentials is positive. -/
theorem S_pos (k : Fin 100000) : 0 < S x k :=
  Finset.sum_pos (fun j _ => Real.exp_pos _) Finset.univ_nonempty

/-- The probability of class `c` at row `k`. -/
def p (k : Fin 100000) (c : Fin 100) : ℝ := Real.exp (x k c) / S x k

/-- A probability is above nought. -/
theorem p_pos (k : Fin 100000) (c : Fin 100) : 0 < p x k c := div_pos (Real.exp_pos _) (S_pos x k)

/-- A probability is at most one. -/
theorem p_le_one (k : Fin 100000) (c : Fin 100) : p x k c ≤ 1 := by
  rw [p, div_le_one (S_pos x k)]
  exact Finset.single_le_sum (f := fun j => Real.exp (x k j)) (fun j _ => (Real.exp_pos _).le) (Finset.mem_univ c)

/-- The probability less one at the label. -/
def z (k : Fin 100000) (c : Fin 100) : ℝ := if l k = BitVec.ofNat 32 c.val then p x k c - 1 else p x k c

/-- The residual where the probability lies above `b` tenths. -/
def above (b : ℕ) (k : Fin 100000) (c : Fin 100) : ℝ := if (b / 10 : ℝ) < p x k c then z x l k c else 0

/-- Above nought is everywhere. -/
theorem above_zero (k : Fin 100000) (c : Fin 100) : above x l 0 k c = z x l k c := by
  rw [above, if_pos]
  simpa using p_pos x k c

/-- Above one is nowhere. -/
theorem above_ten (k : Fin 100000) (c : Fin 100) : above x l 10 k c = 0 := by
  rw [above, if_neg]
  have := p_le_one x k c
  push Not
  norm_num
  exact this

/-- The residuals above `b` tenths, over all rows. -/
def total (b : ℕ) (c : Fin 100) : ℝ := ∑ k : Fin 100000, above x l b k c

/-- The result. -/
def out : ℝ := (∑ b : Fin 10, ∑ c : Fin 100, |total x l b.val c - total x l (b.val + 1) c|) / 10000000

/-- Bin `b` holds the probabilities above `b` tenths and not above the next tenth. -/
def In (b : Fin 10) (k : Fin 100000) (c : Fin 100) : Prop := (b.val / 10 : ℝ) < p x k c ∧ p x k c ≤ ((b.val + 1 : ℕ) / 10 : ℝ)

/-- Lying in a bin is decided classically. -/
instance (b : Fin 10) (k : Fin 100000) (c : Fin 100) : Decidable (In x b k c) := Classical.propDecidable _

/-- How many rows a bin holds. -/
def count (b : Fin 10) (c : Fin 100) : ℕ := (Finset.univ.filter fun k => In x b k c).card

/-- How many of them carry the label. -/
def hits (b : Fin 10) (c : Fin 100) : ℕ := (Finset.univ.filter fun k => In x b k c ∧ l k = BitVec.ofNat 32 c.val).card

/-- The sum of a bin's probabilities. -/
def conf (b : Fin 10) (c : Fin 100) : ℝ := ∑ k : Fin 100000, if In x b k c then p x k c else 0

/-- The difference of two adjacent totals is a bin's confidence less its hits. -/
theorem total_sub (b : Fin 10) (c : Fin 100) :
    total x l b.val c - total x l (b.val + 1) c = conf x b c - (hits x l b c : ℝ) := by
  unfold total conf hits
  rw [Finset.card_filter, Nat.cast_sum, ← Finset.sum_sub_distrib, ← Finset.sum_sub_distrib]
  refine Finset.sum_congr rfl fun k _ => ?_
  unfold above z
  have hlt : (b.val / 10 : ℝ) ≤ ((b.val + 1 : ℕ) / 10 : ℝ) := by push_cast; linarith
  by_cases h1 : (b.val / 10 : ℝ) < p x k c
  · by_cases h2 : p x k c ≤ ((b.val + 1 : ℕ) / 10 : ℝ)
    · have hin : In x b k c := ⟨h1, h2⟩
      rw [if_pos h1, if_neg (not_lt.mpr h2), if_pos hin, sub_zero]
      by_cases h3 : l k = BitVec.ofNat 32 c.val
      · rw [if_pos h3, if_pos ⟨hin, h3⟩, Nat.cast_one]
      · rw [if_neg h3, if_neg fun h => h3 h.2, Nat.cast_zero, sub_zero]
    · have hin : ¬In x b k c := fun h => h2 h.2
      rw [if_pos h1, if_pos (not_le.mp h2), sub_self, if_neg hin, if_neg fun h => hin h.1, Nat.cast_zero, sub_zero]
  · have hin : ¬In x b k c := fun h => h1 h.1
    rw [if_neg h1, if_neg fun h => h1 (lt_of_le_of_lt hlt h), sub_self, if_neg hin, if_neg fun h => hin h.1, Nat.cast_zero,
      sub_zero]

/-- A bin's term: the distance of its mean confidence and its accuracy, weighted by its share of the rows; nothing for an
    empty bin. -/
def term (b : Fin 10) (c : Fin 100) : ℝ :=
  if 0 < count x b c then
    |conf x b c / (max (count x b c) 1 : ℕ) - (hits x l b c : ℝ) / (max (count x b c) 1 : ℕ)| * ((count x b c : ℝ) / 100000)
  else 0

/-- The term without its weights. -/
theorem term_eq (b : Fin 10) (c : Fin 100) :
    term x l b c = |total x l b.val c - total x l (b.val + 1) c| / 100000 := by
  rw [total_sub, term]
  split
  · rename_i h
    have hc : (0 : ℝ) < (count x b c : ℝ) := by exact_mod_cast h
    rw [max_eq_left (by omega : 1 ≤ count x b c), ← sub_div, abs_div, abs_of_pos hc, div_mul_div_cancel₀ hc.ne']
  · rename_i h
    have h0 : count x b c = 0 := by omega
    have hn : ∀ k, ¬In x b k c := fun k hk =>
      absurd (Finset.mem_filter.mpr ⟨Finset.mem_univ k, hk⟩) (by rw [Finset.card_eq_zero.mp h0]; simp)
    have h1 : conf x b c = 0 := Finset.sum_eq_zero fun k _ => if_neg (hn k)
    have h2 : hits x l b c = 0 := Finset.card_eq_zero.mpr (Finset.filter_eq_empty_iff.mpr fun k _ hk => hn k hk.1)
    rw [h1, h2, Nat.cast_zero, sub_zero, abs_zero, zero_div]

/-- The mean over classes of the sum of the bins' terms is the result. -/
theorem mean_eq : (∑ c : Fin 100, ∑ b : Fin 10, term x l b c) / 100 = out x l := by
  simp only [term_eq, ← Finset.sum_div]
  rw [out, Finset.sum_comm, div_div]
  norm_num

end Cert.Model

end
-- ==== Proof.Fold.lean ====
/- The accumulator after all 25 grid points, and the output: sums over all 100000 rows of the launched arrays. -/
module

public import proofs.«01_k».proof.Proof.Step
public import proofs.«01_k».proof.Proof.Bounds
public import proofs.«01_k».proof.Proof.Model
public import Idealize.ShloMosaic.Lib.Pipeline.ValueKit
public import Idealize.ShloMosaic.Lib.Claim
public import Idealize.ShloMosaic.Lib.Pointwise.Sums

@[expose] public section

noncomputable section

namespace Cert.KernelIdeal.Fold

open Idealize.ShloMosaic Idealize.ShloMosaic.TcCoe Idealize.SL.Sem
open Cert.KernelIdeal Cert.KernelIdeal.Gen Cert.KernelIdeal.Block Cert.KernelIdeal.Step Cert.KernelIdeal.Bounds
open scoped BigOperators

variable (m : (ℓ : Loc nD τ sig) → Buf (Elt Ideal) ℓ)

/-- The accumulator after the last grid point: the gains of the 25 blocks, summed. -/
theorem scratch_last (c : Dev nD) (y : S11x100.Idx) :
    (outsAt0 m c 24 (lt_of_lt_of_eq (by decide) N_0.symm)).2 y
      = 0 + ∑ p : Fin cfg0.N, gain (iblk m c 0 p) (iblk m c 1 p) (iblk m c 2 p) (y 0) (y 1) := by
  have h := Pipeline.eq_sum_fin_of_reset_step_apply_last (fun n h => (outsAt0 m c n h).2) 25 (fun _ => (0 : Ideal .f32))
    (fun p y => gain (iblk m c 0 p) (iblk m c 1 p) (iblk m c 2 p) (y 0) (y 1))
    (fun t h j => by
      rw [outsAt0_A m c t h (by omega)]
      dsimp only; rw [sout_A])
    (fun t h j => by
      by_cases h1 : t.val % 25 = 24
      · rw [outsAt0_C m c t h h1]
        dsimp only; rw [sout_C]
      · rw [outsAt0_B m c t h h1]
        dsimp only; rw [sout_B])
    (le_of_eq N_0) ⟨24, lt_of_lt_of_eq (by decide) N_0.symm⟩ N_0.symm y
  exact h

/-- The output is read off that accumulator. -/
theorem out_last (c : Dev nD) :
    Value.G3 m c = k0_pay4 (F := Ideal) (outsAt0 m c 24 (lt_of_lt_of_eq (by decide) N_0.symm)).2 := by
  have hC := outsAt0_C m c ⟨24, lt_of_lt_of_eq (by decide) N_0.symm⟩ (by decide) (by decide)
  have h24 : (24 : ℕ) < cfg0.N := lt_of_lt_of_eq (by decide) N_0.symm
  rw [Value.G3_last, ← Value.outsAt0_sweep m c 24 h24]
  have e1 := congrArg Prod.fst hC
  have e2 := congrArg Prod.snd hC
  dsimp only at e1 e2
  rw [e1, e2]
  exact out_C ..

/-- Where each window's block sits at a grid point. -/
theorem idx (t : Fin cfg0.N) :
    win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0]) t

/-- A row of the logits' block is the row of the array it was cut from. -/
theorem iblk0_apply (c : Dev nD) (t : Fin cfg0.N) (r : Fin 4000) (q : Fin 100) (h : t.val * 4000 + r.val < 100000) :
    (iblk m c 0 t : Vec Ideal S4000x100 .f32) (ix2 r q)
      = (m ((c : Thread nD τ).loc main_arg0) : Vec Ideal S100000x100 .f32) (ix2 (⟨t.val * 4000 + r.val, h⟩ : Fin 100000) q) := by
  blk_ext [iblk, V, idx t]

/-- The labels the kernel reads, as a column. -/
theorem V_labels (c : Dev nD) : (V m c main_v0 : Vec Ideal S100000x1 .i32)
    = shapeCast S100000x1 (m ((c : Thread nD τ).loc main_arg1) : Vec Ideal S100000 .i32) shapeCasts_S100000_S100000x1 := by
  simp only [V, hostOps0, hostOps0_1, hostOps0_2, List.flatten_cons, List.flatten_nil, List.append_nil, List.cons_append,
    List.nil_append]
  entry_read
  rfl

/-- The region finds the boundaries in one row. -/
theorem V_bounds (c : Dev nD) :
    (V m c main_v2 : Vec Ideal S1x11 .f32) = shapeCast S1x11 lin shapeCasts_S11_S1x11 := by
  simp only [V, hostOps0, hostOps0_1, hostOps0_2, List.flatten_cons, List.flatten_nil, List.append_nil, List.cons_append,
    List.nil_append]
  entry_read
  rfl

/-- A row of the labels' block is the label of its row. -/
theorem iblk1_apply (c : Dev nD) (t : Fin cfg0.N) (r : Fin 4000) (h : t.val * 4000 + r.val < 100000) :
    (iblk m c 1 t : Vec Ideal S4000x1 .i32) (ix2 r (0 : Fin 1))
      = (m ((c : Thread nD τ).loc main_arg1) : Vec Ideal S100000 .i32) (ix1 (⟨t.val * 4000 + r.val, h⟩ : Fin 100000)) := by
  have e : (iblk m c 1 t : Vec Ideal S4000x1 .i32) (ix2 r (0 : Fin 1))
      = (V m c main_v0 : Vec Ideal S100000x1 .i32) (ix2 (⟨t.val * 4000 + r.val, h⟩ : Fin 100000) (0 : Fin 1)) := by
    blk_ext [iblk, idx t]
  rw [e, V_labels]
  pointwise

/-- The boundaries' block is the whole vector of boundaries. -/
theorem iblk2_apply (c : Dev nD) (t : Fin cfg0.N) (b : Fin 11) :
    (iblk m c 2 t : Vec Ideal S1x11 .f32) (ix2 (0 : Fin 1) b) = lin (ix1 b) := by
  have e : (iblk m c 2 t : Vec Ideal S1x11 .f32) (ix2 (0 : Fin 1) b) = (V m c main_v2 : Vec Ideal S1x11 .f32) (ix2 (0 : Fin 1) b) := by
    blk_ext [iblk, idx t]
  rw [e, V_bounds]
  pointwise

/-- A block's gain in real numbers, its rows being the rows `f` of the real array `X` and its boundaries tenths. -/
theorem gain_coe (X : Fin 100000 → Fin 100 → ℝ) (L : Fin 100000 → BitVec 32) (f : Fin 4000 → Fin 100000)
    (x : Vec Ideal S4000x100 .f32) (l : Vec Ideal S4000x1 .i32) (t : Vec Ideal S1x11 .f32)
    (hx : ∀ r q, x (ix2 r q) = ((X (f r) q : ℝ) : EReal)) (hl : ∀ r, l (ix2 r (0 : Fin 1)) = L (f r))
    (ht : ∀ b : Fin 11, t (ix2 (0 : Fin 1) b) = ((b.val / 10 : ℝ) : EReal)) (b : Fin 11) (q : Fin 100) :
    gain x l t b q = ((∑ r : Fin 4000, Model.above X L b.val (f r) q : ℝ) : EReal) := by
  have hp : ∀ r q, prob x r q = ((Model.p X (f r) q : ℝ) : EReal) := fun r q => by
    unfold prob
    simp only [hx, Reals.exp_coe, Reals.sum_coe]
    exact Reals.mul_div_one _ (Model.S_pos X (f r)).ne'
  have hz : ∀ r q, resid x l r q = ((Model.z X L (f r) q : ℝ) : EReal) := fun r q => by
    unfold resid Model.z
    rw [hl, hp, ← EReal.coe_one, ← EReal.coe_sub, Reals.ite_coe]
  unfold gain
  split
  · rename_i h
    subst h
    rw [← Reals.sum_coe]
    exact Finset.sum_congr rfl fun r _ => by rw [hz]; exact congrArg _ (Model.above_zero X L (f r) q).symm
  · split
    · rename_i h
      subst h
      rw [← EReal.coe_zero]
      exact congrArg _ (Finset.sum_eq_zero fun r _ => Model.above_ten X L (f r) q).symm
    · rw [← Reals.sum_coe]
      refine Finset.sum_congr rfl fun r _ => ?_
      rw [hp, hz, ht, ← EReal.coe_zero, Reals.ite_coe]
      unfold Model.above
      simp only [EReal.coe_lt_coe_iff]

/-- What the kernel leaves: the result in real numbers, when every logit is real. -/
theorem kernel_value (c : Dev nD) (X : Fin 100000 → Fin 100 → ℝ) (L : Fin 100000 → BitVec 32)
    (hX : ∀ k q, (m ((c : Thread nD τ).loc main_arg0) : Vec Ideal S100000x100 .f32) (ix2 k q) = ((X k q : ℝ) : EReal))
    (hL : ∀ k, (m ((c : Thread nD τ).loc main_arg1) : Vec Ideal S100000 .i32) (ix1 k) = L k) :
    (Value.G3 m c : Vec Ideal S1x1 .f32) = fun _ => ((Model.out X L : ℝ) : EReal) := by
  have hN : cfg0.N * 4000 = 100000 := by rw [show cfg0.N = 25 from N_0]
  have hs : ∀ (b : Fin 11) (q : Fin 100), (outsAt0 m c 24 (lt_of_lt_of_eq (by decide) N_0.symm)).2 (ix2 b q)
      = ((Model.total X L b.val q : ℝ) : EReal) := fun b q => by
    rw [scratch_last, zero_add, Model.total, Fin.sum_univ_tiles cfg0.N 4000 hN, ← Reals.sum_coe]
    refine Finset.sum_congr rfl fun t _ => ?_
    have hlt : ∀ r : Fin 4000, t.val * 4000 + r.val < 100000 := fun r => by
      have := t.isLt; have := r.isLt; omega
    exact gain_coe X L (fun r => ⟨t.val * 4000 + r.val, hlt r⟩) _ _ _
      (fun r q => (iblk0_apply m c t r q (hlt r)).trans (hX _ _)) (fun r => (iblk1_apply m c t r (hlt r)).trans (hL _))
      (fun b => (iblk2_apply m c t b).trans (lin_apply b)) b q
  rw [out_last]
  funext y
  rw [pay4_apply, Reals.word_entries]
  simp only [hs, ← EReal.coe_sub, Reals.abs_coe, Reals.sum_coe]
  rw [Reals.div_coe_coe _ (by norm_num)]
  rfl

end Cert.KernelIdeal.Fold

end
-- ==== Proof.RefStages.lean ====
/- The reference as named stages: probabilities, boundaries, bins, counts, and the weighted distances. -/
module

public import proofs.«01_k».proof.Proof.Gen.ReferenceIdeal.Run
public import proofs.«01_k».proof.Proof.Reals
public import Idealize.ShloMosaic.Lib.Pointwise

@[expose] public section

noncomputable section

namespace Cert.ReferenceIdeal.Stages

open Idealize.ShloMosaic Idealize.ShloMosaic.TcCoe Idealize.SL.Sem
open Cert.ReferenceIdeal Cert.ReferenceIdeal.Gen

variable (x : Vec Ideal S100000x100 .f32) (l : Vec Ideal S100000 .i32)

/-- Each row's maximum. -/
def rowMax : Vec Ideal S100000 .f32 :=
  maximumf (F := Ideal) (φ := .f32) (broadcastInDim S100000 ![] bcast_S_S100000 (constant (F := Ideal) S_ .f32 0xFF800000#32))
    (Host.reduce FloatOps.maximumf x (constant (F := Ideal) S_ .f32 0xFF800000#32) reducesTo_S100000x100_S100000_d1 h_S_)

/-- The exponentials of the logits less their row's maximum. -/
def exps : Vec Ideal S100000x100 .f32 :=
  Host.exp (F := Ideal) (φ := .f32) (subf (F := Ideal) (φ := .f32) x (broadcastInDim S100000x100 ![0, 1] bcast_S100000x1_S100000x100_0_1
    (broadcastInDim S100000x1 ![0] bcast_S100000_S100000x1_0 (rowMax x))))

/-- The probabilities. -/
def probs : Vec Ideal S100000x100 .f32 :=
  Host.divf (F := Ideal) (φ := .f32) (exps x) (broadcastInDim S100000x100 ![0, 1] bcast_S100000x1_S100000x100_0_1
    (broadcastInDim S100000x1 ![0] bcast_S100000_S100000x1_0
      (Host.reduceAdd (F := Ideal) (φ := .f32) (exps x) (constant (F := Ideal) S_ .f32 0x00000000#32) reducesTo_S100000x100_S100000_d1 h_S_)))

/-- The positions 0 to 9 over ten. -/
def tenths : Vec Ideal S10 .f32 :=
  Host.divf (F := Ideal) (φ := .f32) (sitofp (F := Ideal) .f32 (iotaInDim S10 32 0)) (broadcastInDim S10 ![] bcast_S_S10 (constant (F := Ideal) S_ .f32 0x41200000#32))

/-- The first ten boundaries. -/
def ten : Vec Ideal S10 .f32 :=
  addf
    (mulf (F := Ideal) (φ := .f32) (broadcastInDim S10 ![0] bcast_S1_S10_0 (shapeCast S1 (constant (F := Ideal) S_ .f32 0x00000000#32) shapeCasts_S_S1))
      (subf (F := Ideal) (φ := .f32) (broadcastInDim S10 ![] bcast_S_S10 (constant (F := Ideal) S_ .f32 0x3F800000#32)) tenths))
    (mulf (F := Ideal) (φ := .f32) (broadcastInDim S10 ![0] bcast_S1_S10_0 (shapeCast S1 (constant (F := Ideal) S_ .f32 0x3F800000#32) shapeCasts_S_S1)) tenths)

/-- The eleven boundaries. -/
def bounds : Vec Ideal S11 .f32 :=
  concatenate S11 0 [⟨S10, ten⟩, ⟨S1, (broadcastInDim S1 ![] bcast_S_S1 (constant (F := Ideal) S_ .f32 0x3F800000#32) : Vec Ideal S1 .f32)⟩]
    concatenates_S10_S1_S11_d0

/-- Each bin's lower boundary. -/
def lower : Vec Ideal S10 .f32 := extractStridedSlice S10 ![0] bounds slices_S11_S10_0

/-- Each bin's upper boundary. -/
def upper : Vec Ideal S10 .f32 := extractStridedSlice S10 ![1] bounds slices_S11_S10_1

/-- A value per bin, for every row and class. -/
def perBin (v : Vec Ideal S10 .f32) : Vec Ideal S10x100000x100 .f32 :=
  broadcastInDim S10x100000x100 ![0, 1, 2] bcast_S10x1x1_S10x100000x100_0_1_2 (broadcastInDim S10x1x1 ![0] bcast_S10_S10x1x1_0 v)

/-- A value per row and class, for every bin. -/
def perEntry {e : EltTy} (v : Vec Ideal S100000x100 e) : Vec Ideal S10x100000x100 e :=
  broadcastInDim S10x100000x100 ![0, 1, 2] bcast_S1x100000x100_S10x100000x100_0_1_2
    (broadcastInDim S1x100000x100 ![1, 2] bcast_S100000x100_S1x100000x100_1_2 v)

/-- Which probabilities lie in which bin. -/
def inBin : Vec Ideal S10x100000x100 .i1 :=
  andi (cmpf (F := Ideal) (φ := .f32) .ogt (perEntry (probs x)) (perBin lower)) (cmpf (F := Ideal) (φ := .f32) .ole (perEntry (probs x)) (perBin upper))

/-- Which class is each row's label. -/
def isLabel : Vec Ideal S100000x100 .i1 :=
  cmpi .eq
    (broadcastInDim S100000x100 ![0, 1] bcast_S100000x1_S100000x100_0_1 (broadcastInDim S100000x1 ![0] bcast_S100000_S100000x1_0 l))
    (broadcastInDim S100000x100 ![0, 1] bcast_S1x100_S100000x100_0_1 (broadcastInDim S1x100 ![1] bcast_S100_S1x100_1 (iotaInDim S100 32 0)))

/-- How many rows are marked, per bin and class. -/
def tally (v : Vec Ideal S10x100000x100 .i1) : Vec Ideal S10x100 .i32 :=
  Host.reduce IntOp.addi (extui 32 v natLt_1_32) (constantI S_ 32 0#32) reducesTo_S10x100000x100_S10x100_d1 h_S_

/-- A bin's count, at least one. -/
def safe : Vec Ideal S10x100 .f32 :=
  sitofp (F := Ideal) .f32 (maxsi (tally (inBin x)) (broadcastInDim S10x100 ![] bcast_S_S10x100 (constantI S_ 32 1#32)))

/-- A bin's share of the rows. -/
def share : Vec Ideal S10x100 .f32 :=
  Host.divf (F := Ideal) (φ := .f32) (sitofp (F := Ideal) .f32 (tally (inBin x))) (broadcastInDim S10x100 ![] bcast_S_S10x100 (constant (F := Ideal) S_ .f32 0x47C35000#32))

/-- A bin's accuracy. -/
def accuracy : Vec Ideal S10x100 .f32 :=
  Host.divf (F := Ideal) (φ := .f32) (sitofp (F := Ideal) .f32 (tally (andi (inBin x) (perEntry (isLabel l))))) (safe x)

/-- The sum of a bin's probabilities. -/
def confSum : Vec Ideal S10x100 .f32 :=
  Host.reduceAdd
    (select (inBin x) (perEntry (probs x)) (broadcastInDim S10x100000x100 ![] bcast_S_S10x100000x100 (constant (F := Ideal) S_ .f32 0x00000000#32)))
    (constant (F := Ideal) S_ .f32 0x00000000#32) reducesTo_S10x100000x100_S10x100_d1 h_S_

/-- A bin's weighted distance, nothing for an empty bin. -/
def term : Vec Ideal S10x100 .f32 :=
  select (cmpi .sgt (tally (inBin x)) (broadcastInDim S10x100 ![] bcast_S_S10x100 (constantI S_ 32 0#32)))
    (mulf (F := Ideal) (φ := .f32) (Host.absf (F := Ideal) (φ := .f32) (subf (F := Ideal) (φ := .f32) (Host.divf (F := Ideal) (φ := .f32) (confSum x) (safe x)) (accuracy x l))) (share x))
    (broadcastInDim S10x100 ![] bcast_S_S10x100 (constant (F := Ideal) S_ .f32 0x00000000#32))

/-- The mean over classes of the sum of the bins' terms. -/
def result : Vec Ideal S1x1 .f32 :=
  shapeCast S1x1
    (Host.divf
      (Host.reduceAdd
        (Host.reduceAdd (F := Ideal) (φ := .f32) (term x l) (constant (F := Ideal) S_ .f32 0x00000000#32) reducesTo_S10x100_S100_d0 h_S_)
        (constant (F := Ideal) S_ .f32 0x00000000#32) reducesTo_S100_S_d0 h_S_)
      (constant (F := Ideal) S_ .f32 0x42C80000#32))
    shapeCasts_S_S1x1

/-- The reference's result is the last stage. -/
theorem res_eq (m : (ℓ : Loc nD τ sig) → Buf (Elt Ideal) ℓ) (c : Dev nD) :
    (Value.res_main_v59 m c : Vec Ideal S1x1 .f32)
      = result (m ((c.tc : Thread nD τ).loc main_arg0)) (m ((c.tc : Thread nD τ).loc main_arg1)) := by
  unfold Value.res_main_v59
  rfl

end Cert.ReferenceIdeal.Stages

end
-- ==== Proof.RefProbs.lean ====
/- The reference's probabilities: shifting a row by its maximum does not change its softmax. -/
module

public import proofs.«01_k».proof.Proof.RefStages
public import proofs.«01_k».proof.Proof.Model

@[expose] public section

noncomputable section

namespace Cert.ReferenceIdeal.Probs

open Idealize.ShloMosaic Idealize.ShloMosaic.TcCoe Idealize.SL.Sem
open Cert.ReferenceIdeal Cert.ReferenceIdeal.Gen Cert.ReferenceIdeal.Stages
open scoped BigOperators

/-- The larger of two reals. -/
theorem max_coe (a b : ℝ) : max (a : EReal) (b : EReal) = ((max a b : ℝ) : EReal) :=
  (EReal.coe_strictMono.monotone.map_max).symm

/-- A maximum of reals, started at negative infinity, is negative infinity or a real, the latter as soon as there is one. -/
theorem fold_max_real {ι : Type} [DecidableEq ι] (s : Finset ι) (f : ι → ℝ) :
    (s = ∅ ∧ s.fold FloatOps.maximumf (⊥ : Ideal .f32) (fun k => ((f k : ℝ) : EReal)) = (⊥ : EReal))
      ∨ ∃ M : ℝ, s.fold FloatOps.maximumf (⊥ : Ideal .f32) (fun k => ((f k : ℝ) : EReal)) = (M : EReal) := by
  induction s using Finset.induction_on with
  | empty => exact Or.inl ⟨rfl, rfl⟩
  | insert a s ha ih =>
    right
    rw [Finset.fold_insert ha]
    rcases ih with ⟨_, h⟩ | ⟨M, h⟩
    · exact ⟨f a, by rw [h]; exact max_bot_right _⟩
    · exact ⟨max (f a) M, by rw [h]; exact max_coe _ _⟩

variable (x : Vec Ideal S100000x100 .f32) (X : Fin 100000 → Fin 100 → ℝ)
  (hX : ∀ k q, x (ix2 k q) = ((X k q : ℝ) : EReal))

/-- The maximum with negative infinity, broadcast, is the other argument. -/
theorem max_start (w : Vec Ideal S100000 .f32) (k : Fin 100000) :
    maximumf (F := Ideal) (φ := .f32) (broadcastInDim S100000 ![] bcast_S_S100000 (constant (F := Ideal) S_ .f32 0xFF800000#32)) w
      (ix1 k) = w (ix1 k) := by
  have h : maximumf (F := Ideal) (φ := .f32) (broadcastInDim S100000 ![] bcast_S_S100000 (constant (F := Ideal) S_ .f32 0xFF800000#32)) w
      (ix1 k) = max (Ideal.ofBits .f32 0xFF800000#32) (w (ix1 k)) := by
    pointwise
  rw [h, Reals.word_bot]
  exact max_bot_left _

/-- A row is reduced along its classes. -/
theorem reduces_row : S100000x100.Reduces [1] S100000 :=
  ⟨rfl, Nat.one_pos, reducesTo_S100000x100_S100000_d1.2⟩

include hX in
/-- A row's maximum is a real. -/
theorem rowMax_real (k : Fin 100000) : ∃ M : ℝ, rowMax x (ix1 k) = (M : EReal) := by
  have hx : ∀ i, ∃ r : ℝ, x i = (r : EReal) := fun i => ⟨_, (congrArg x (eq_ix2 i)).trans (hX _ _)⟩
  choose f hf using hx
  have e : rowMax x (ix1 k) = (Finset.univ : Finset (Fin 100)).fold FloatOps.maximumf
      (constant (F := Ideal) S_ .f32 0xFF800000#32 (Shape.Idx.first h_S_)) (x ∘ reduces_row.lift (ix1 k)) := by
    rw [rowMax, max_start]
    exact Host.reduce_eq_fold_single (FloatOps.maximumf (F := Ideal) (φ := .f32)) x (constant (F := Ideal) S_ .f32 0xFF800000#32)
      reducesTo_S100000x100_S100000_d1 reduces_row h_S_ (ix1 k)
  rw [e, show x ∘ reduces_row.lift (ix1 k) = fun q => ((f (reduces_row.lift (ix1 k) q) : ℝ) : EReal) from funext fun q => hf _]
  rw [show constant (F := Ideal) S_ .f32 0xFF800000#32 (Shape.Idx.first h_S_) = (⊥ : EReal) from Reals.word_bot]
  rcases fold_max_real Finset.univ fun q => f (reduces_row.lift (ix1 k) q) with ⟨e, _⟩ | h
  · exact absurd (e ▸ Finset.mem_univ (0 : Fin 100)) (Finset.notMem_empty _)
  · exact h

include hX in
/-- Probabilities are the softmax of the row. -/
theorem probs_apply (k : Fin 100000) (q : Fin 100) : probs x (ix2 k q) = ((Model.p X k q : ℝ) : EReal) := by
  obtain ⟨M, hM⟩ := rowMax_real x X hX k
  have he : ∀ j : Fin 100, exps x (ix2 k j) = ((Real.exp (X k j - M) : ℝ) : EReal) := by
    intro j
    have h : exps x (ix2 k j) = Ideal.exp (x (ix2 k j) - rowMax x (ix1 k)) := by
      pointwise [exps]
    rw [h, hX, hM, ← EReal.coe_sub, Reals.exp_coe]
  have h : probs x (ix2 k q) = Ideal.div (exps x (ix2 k q)) (0 + ∑ j : Fin 100, exps x (ix2 k j)) := by
    pointwise [probs]
  have hs : (∑ j : Fin 100, exps x (ix2 k j)) = (((∑ j : Fin 100, Real.exp (X k j - M)) : ℝ) : EReal) := by
    rw [Finset.sum_congr rfl fun j _ => he j]
    exact Reals.sum_coe _ _
  have hp : 0 < ∑ j : Fin 100, Real.exp (X k j - M) :=
    Finset.sum_pos (fun j _ => Real.exp_pos _) Finset.univ_nonempty
  rw [h, hs, zero_add, he, Reals.div_coe_coe _ hp.ne']
  refine congrArg (fun r : ℝ => (r : EReal)) ?_
  have e : (∑ j : Fin 100, Real.exp (X k j - M)) = Model.S X k / Real.exp M := by
    rw [Model.S, Finset.sum_div]
    exact Finset.sum_congr rfl fun j _ => Real.exp_sub _ _
  rw [e, Real.exp_sub, div_div_div_cancel_right₀ (Real.exp_pos M).ne', Model.p]

end Cert.ReferenceIdeal.Probs

end
-- ==== Proof.RefBins.lean ====
/- The reference's bins: boundaries in tenths, and each bin's count, label hits and probability sum. -/
module

public import proofs.«01_k».proof.Proof.RefProbs
public import proofs.«01_k».proof.Proof.Bounds
public import Idealize.ShloMosaic.Lib.IndicatorCount
public import Idealize.ShloMosaic.Lib.Affine

@[expose] public section

noncomputable section

namespace Cert.ReferenceIdeal.Bins

open Idealize.ShloMosaic Idealize.ShloMosaic.TcCoe Idealize.SL.Sem
open Cert.ReferenceIdeal Cert.ReferenceIdeal.Gen Cert.ReferenceIdeal.Stages
open scoped BigOperators

/-- Boundary `b` is `b` tenths, as in the program with the kernel. -/
theorem bounds_apply (b : Fin 11) : bounds (ix1 b) = ((b.val / 10 : ℝ) : EReal) :=
  Cert.KernelIdeal.Bounds.lin_apply b

/-- The lower boundary of bin `b` is `b` tenths. -/
theorem lower_apply (b : Fin 10) : lower (ix1 b) = ((b.val / 10 : ℝ) : EReal) := by
  have h : lower (ix1 b) = bounds (ix1 (⟨b.val, by omega⟩ : Fin 11)) := by
    pointwise [lower]
  rw [h, bounds_apply]

/-- The upper boundary of bin `b` is `b + 1` tenths. -/
theorem upper_apply (b : Fin 10) : upper (ix1 b) = (((b.val + 1 : ℕ) / 10 : ℝ) : EReal) := by
  have h : upper (ix1 b) = bounds (ix1 (⟨1 + b.val, by omega⟩ : Fin 11)) := by
    pointwise [upper]
  rw [h, bounds_apply]
  simp only [Nat.add_comm 1 b.val]

/-- A tally is the number of marked rows. -/
theorem tally_apply (v : Vec Ideal S10x100000x100 .i1) (b : Fin 10) (c : Fin 100) :
    tally v (ix2 b c) = BitVec.ofNat 32 ((Finset.univ : Finset (Fin 100000)).filter fun k => v (ix3 b k c) = 1#1).card := by
  have h : tally v (ix2 b c)
      = (Finset.univ : Finset (Fin 100000)).fold IntOp.addi (0#32) (fun k => (v (ix3 b k c)).setWidth 32) := by
    pointwise [tally]
  rw [h]
  exact IndicatorCount.fold_addi_setWidth_eq_card _ _

variable (x : Vec Ideal S100000x100 .f32) (l : Vec Ideal S100000 .i32)
  (X : Fin 100000 → Fin 100 → ℝ) (L : Fin 100000 → BitVec 32)
  (hX : ∀ k q, x (ix2 k q) = ((X k q : ℝ) : EReal)) (hL : ∀ k, l (ix1 k) = L k)

include hX in
/-- An entry is marked where its probability lies in the bin. -/
theorem inBin_iff (b : Fin 10) (k : Fin 100000) (c : Fin 100) : inBin x (ix3 b k c) = 1#1 ↔ Model.In X b k c := by
  have h : inBin x (ix3 b k c) = IntOp.andi
      (FloatOps.cmpf (F := Ideal) (φ := .f32) .ogt (probs x (ix2 k c)) (lower (ix1 b)))
      (FloatOps.cmpf (F := Ideal) (φ := .f32) .ole (probs x (ix2 k c)) (upper (ix1 b))) := by
    pointwise [inBin, perEntry, perBin]
  rw [h, Probs.probs_apply x X hX, lower_apply, upper_apply, IntOp.andi_eq_one, Ideal.cmpf_def, Ideal.cmpf_def, Ideal.cmp,
    Ideal.cmp, Reals.bit_one, Reals.bit_one, decide_eq_true_iff, decide_eq_true_iff, EReal.coe_lt_coe_iff,
    EReal.coe_le_coe_iff]
  exact Iff.rfl

include hL in
/-- An entry carries the label where the row's label is its class. -/
theorem isLabel_iff (k : Fin 100000) (c : Fin 100) : isLabel l (ix2 k c) = 1#1 ↔ L k = BitVec.ofNat 32 c.val := by
  have h : isLabel l (ix2 k c) = IntOp.cmpi .eq (l (ix1 k)) (BitVec.ofNat 32 c.val) := by
    pointwise [isLabel]
  rw [h, IntOp.cmpi_eq, hL]

include hX in
/-- The count of a bin. -/
theorem count_apply (b : Fin 10) (c : Fin 100) : tally (inBin x) (ix2 b c) = BitVec.ofNat 32 (Model.count X b c) := by
  rw [tally_apply, Model.count]
  exact congrArg (fun s : Finset (Fin 100000) => BitVec.ofNat 32 s.card) (Finset.filter_congr fun k _ => inBin_iff x X hX b k c)

include hX hL in
/-- The label hits of a bin. -/
theorem hits_apply (b : Fin 10) (c : Fin 100) :
    tally (andi (inBin x) (perEntry (isLabel l))) (ix2 b c) = BitVec.ofNat 32 (Model.hits X L b c) := by
  rw [tally_apply, Model.hits]
  refine congrArg (fun s : Finset (Fin 100000) => BitVec.ofNat 32 s.card) (Finset.filter_congr fun k _ => ?_)
  have h : andi (inBin x) (perEntry (isLabel l)) (ix3 b k c) = IntOp.andi (inBin x (ix3 b k c)) (isLabel l (ix2 k c)) := by
    pointwise [perEntry]
  rw [h, IntOp.andi_eq_one, inBin_iff x X hX, isLabel_iff l L hL]

include hX in
/-- The probability sum of a bin. -/
theorem conf_apply (b : Fin 10) (c : Fin 100) : confSum x (ix2 b c) = ((Model.conf X b c : ℝ) : EReal) := by
  have h : confSum x (ix2 b c) = ∑ k : Fin 100000, Scalar.select (inBin x (ix3 b k c)) (probs x (ix2 k c)) (0 : EReal) := by
    pointwise [confSum, perEntry]
  have e : ∀ k : Fin 100000, Scalar.select (inBin x (ix3 b k c)) (probs x (ix2 k c)) (0 : EReal)
      = (((if Model.In X b k c then Model.p X k c else 0 : ℝ)) : EReal) := by
    intro k
    rw [Probs.probs_apply x X hX]
    by_cases hk : Model.In X b k c
    · rw [if_pos hk]
      exact if_pos ((inBin_iff x X hX b k c).mpr hk)
    · rw [if_neg hk]
      exact if_neg fun hh => hk ((inBin_iff x X hX b k c).mp hh)
  rw [h, Finset.sum_congr rfl fun k _ => e k, Model.conf]
  exact Reals.sum_coe _ _

/-- No bin holds more than every row. -/
theorem count_le (b : Fin 10) (c : Fin 100) : Model.count X b c ≤ 100000 :=
  (Finset.card_le_univ _).trans (Fintype.card_fin _).le

/-- No bin has more hits than rows. -/
theorem hits_le (b : Fin 10) (c : Fin 100) : Model.hits X L b c ≤ 100000 :=
  (Finset.card_le_univ _).trans (Fintype.card_fin _).le

end Cert.ReferenceIdeal.Bins

end
-- ==== Proof.Reference.lean ====
/- The reference's result: each bin's term in real numbers, and their mean. -/
module

public import proofs.«01_k».proof.Proof.RefBins

@[expose] public section

noncomputable section

namespace Cert.ReferenceIdeal.Reference

open Idealize.ShloMosaic Idealize.ShloMosaic.TcCoe Idealize.SL.Sem
open Cert.ReferenceIdeal Cert.ReferenceIdeal.Gen Cert.ReferenceIdeal.Stages
open scoped BigOperators

/-- A small natural number's word, read signed. -/
theorem toInt_small (n : ℕ) (h : n < 2 ^ 31) : (BitVec.ofNat 32 n).toInt = (n : ℤ) := by
  have ht : (BitVec.ofNat 32 n).toNat = n := by rw [BitVec.toNat_ofNat]; omega
  rw [BitVec.toInt_eq_toNat_of_lt (by rw [ht]; omega), ht]

/-- The signed maximum with one, of a small natural number's word. -/
theorem maxsi_one (n : ℕ) (h : n < 2 ^ 31) : IntOp.maxsi (BitVec.ofNat 32 n) 1#32 = BitVec.ofNat 32 (max n 1) := by
  have e : (1#32).slt (BitVec.ofNat 32 n) = true ↔ 1 < n := by
    rw [BitVec.slt_iff_toInt_lt, toInt_small n h, show (1#32).toInt = 1 from rfl]
    omega
  unfold IntOp.maxsi
  by_cases h1 : 1 < n
  · rw [if_pos (e.mpr h1), max_eq_left h1.le]
  · rw [if_neg fun hh => h1 (e.mp hh), max_eq_right (by omega)]

variable (x : Vec Ideal S100000x100 .f32) (l : Vec Ideal S100000 .i32)
  (X : Fin 100000 → Fin 100 → ℝ) (L : Fin 100000 → BitVec 32)
  (hX : ∀ k q, x (ix2 k q) = ((X k q : ℝ) : EReal)) (hL : ∀ k, l (ix1 k) = L k)

include hX in
/-- The safe count of a bin is its count, at least one. -/
theorem safe_apply (b : Fin 10) (c : Fin 100) :
    safe x (ix2 b c) = (((max (Model.count X b c) 1 : ℕ) : ℝ) : EReal) := by
  have hc := Bins.count_le X b c
  have h : safe x (ix2 b c) = FloatOps.sitofp (F := Ideal) .f32 (IntOp.maxsi (tally (inBin x) (ix2 b c)) 1#32) := by
    pointwise [safe]
  rw [h, Bins.count_apply x X hX, maxsi_one _ (by omega), Reals.sitofp_coe _ (by omega)]

include hX in
/-- A bin's share is its count over the number of rows. -/
theorem share_apply (b : Fin 10) (c : Fin 100) :
    share x (ix2 b c) = (((Model.count X b c : ℝ) / 100000 : ℝ) : EReal) := by
  have hc := Bins.count_le X b c
  have h : share x (ix2 b c) = Ideal.div (FloatOps.sitofp (F := Ideal) .f32 (tally (inBin x) (ix2 b c)))
      (Ideal.ofBits .f32 0x47C35000#32) := by
    pointwise [share]
  rw [h, Bins.count_apply x X hX, Reals.sitofp_coe _ (by omega), Reals.word_rows, Reals.div_coe_coe _ (by norm_num)]

include hX hL in
/-- A bin's accuracy is its hits over its safe count. -/
theorem accuracy_apply (b : Fin 10) (c : Fin 100) :
    accuracy x l (ix2 b c) = (((Model.hits X L b c : ℝ) / (max (Model.count X b c) 1 : ℕ) : ℝ) : EReal) := by
  have hc := Bins.hits_le X L b c
  have h : accuracy x l (ix2 b c)
      = Ideal.div (FloatOps.sitofp (F := Ideal) .f32 (tally (andi (inBin x) (perEntry (isLabel l))) (ix2 b c)))
        (safe x (ix2 b c)) := by
    pointwise [accuracy]
  have h0 : ((max (Model.count X b c) 1 : ℕ) : ℝ) ≠ 0 := by
    have : 0 < max (Model.count X b c) 1 := by omega
    exact_mod_cast this.ne'
  rw [h, Bins.hits_apply x l X L hX hL, Reals.sitofp_coe _ (by omega), safe_apply x X hX, Reals.div_coe_coe _ h0]

include hX hL in
/-- A bin's term is the model's. -/
theorem term_apply (b : Fin 10) (c : Fin 100) : term x l (ix2 b c) = ((Model.term X L b c : ℝ) : EReal) := by
  have hc := Bins.count_le X b c
  have h : term x l (ix2 b c) = Scalar.select (IntOp.cmpi .sgt (tally (inBin x) (ix2 b c)) 0#32)
      (FloatOps.absf (F := Ideal) (φ := .f32)
        (Ideal.div (confSum x (ix2 b c)) (safe x (ix2 b c)) - accuracy x l (ix2 b c)) * share x (ix2 b c)) (0 : EReal) := by
    pointwise [term]
  have h0 : ((max (Model.count X b c) 1 : ℕ) : ℝ) ≠ 0 := by
    have : 0 < max (Model.count X b c) 1 := by omega
    exact_mod_cast this.ne'
  have e : IntOp.cmpi .sgt (BitVec.ofNat 32 (Model.count X b c)) 0#32 = 1#1 ↔ 0 < Model.count X b c := by
    rw [IntOp.cmpi_sgt, toInt_small 0 (by norm_num), toInt_small _ (by omega)]
    omega
  rw [h, Bins.count_apply x X hX, Bins.conf_apply x X hX, safe_apply x X hX, accuracy_apply x l X L hX hL, share_apply x X hX,
    Reals.div_coe_coe _ h0, ← EReal.coe_sub, Reals.abs_coe, ← EReal.coe_mul, Model.term]
  by_cases hp : 0 < Model.count X b c
  · rw [if_pos hp]
    exact if_pos (e.mpr hp)
  · rw [if_neg hp]
    exact if_neg fun hh => hp (e.mp hh)

include hX hL in
/-- The stages' result is the model's. -/
theorem result_eq : result x l = fun _ => ((Model.out X L : ℝ) : EReal) := by
  have h : result x l = fun _ => Ideal.div (∑ c : Fin 100, ∑ b : Fin 10, term x l (ix2 b c)) (Ideal.ofBits .f32 0x42C80000#32) := by
    funext i
    rw [eq_ix2 i]
    pointwise [result]
  have e : (∑ c : Fin 100, ∑ b : Fin 10, term x l (ix2 b c))
      = (((∑ c : Fin 100, ∑ b : Fin 10, Model.term X L b c) : ℝ) : EReal) := by
    rw [← Reals.sum_coe]
    refine Finset.sum_congr rfl fun c _ => ?_
    rw [← Reals.sum_coe]
    exact Finset.sum_congr rfl fun b _ => term_apply x l X L hX hL b c
  rw [h, e, Reals.word_hundred, Reals.div_coe_coe _ (by norm_num), Model.mean_eq]

/-- The reference's array holds the model's value. -/
theorem reference_value (m : (ℓ : Loc nD τ sig) → Buf (Elt Ideal) ℓ) (c : Dev nD)
    (hX : ∀ k q, (m ((c.tc : Thread nD τ).loc main_arg0) : Vec Ideal S100000x100 .f32) (ix2 k q) = ((X k q : ℝ) : EReal))
    (hL : ∀ k, (m ((c.tc : Thread nD τ).loc main_arg1) : Vec Ideal S100000 .i32) (ix1 k) = L k) :
    (Value.res_main_v59 m c : Vec Ideal S1x1 .f32) = fun _ => ((Model.out X L : ℝ) : EReal) :=
  (res_eq m c).trans (result_eq _ _ X L hX hL)

end Cert.ReferenceIdeal.Reference

end
-- ==== Proof.Precond.lean ====
/- The precondition: a finite logit is a real. -/
module

public import proofs.«01_k».proof.Proof.Gen.Pre_finite
public import proofs.«01_k».proof.Proof.Reals
public import Idealize.ShloMosaic.Lib.Pointwise
public import Idealize.ShloMosaic.Lib.ReduceAll

@[expose] public section

noncomputable section

namespace Cert.Pre_finite.Precond

open Idealize.ShloMosaic
open Cert.Pre_finite Cert.Pre_finite.Gen

/-- A number whose absolute value is below positive infinity is a real. -/
theorem real_of_lt (a : EReal) (h : FloatOps.absf (F := Ideal) (φ := .f32) a < (⊤ : EReal)) : ∃ r : ℝ, a = (r : EReal) := by
  have h' : max a (-a) < (⊤ : EReal) := h
  induction a using EReal.rec with
  | bot => simp at h'
  | coe r => exact ⟨r, rfl⟩
  | top => simp at h'

/-- The scalar shape has one index. -/
instance : Subsingleton S_.Idx := ⟨fun a b => funext fun d => d.elim0⟩

/-- Under the precondition the logits are reals. -/
theorem reals (x : FVec Ideal S100000x100 .f32) (l : IVec S100000 32) (h : fn (F := Ideal) x l = fun _ => 1#1) :
    ∃ X : Fin 100000 → Fin 100 → ℝ, ∀ k q, x (ix2 k q) = ((X k q : ℝ) : EReal) := by
  have hr : ∀ k q, ∃ r : ℝ, x (ix2 k q) = (r : EReal) := by
    intro k q
    refine real_of_lt _ ?_
    have e := Host.reduce_andi_all _ _ _ _ (Shape.Idx.first Facts.h_S_) (congrFun h _) (ix2 k q)
    have e' : FloatOps.cmpf (F := Ideal) (φ := .f32) .olt (FloatOps.absf (F := Ideal) (φ := .f32) (x (ix2 k q)))
        (Ideal.ofBits .f32 0x7F800000#32) = 1#1 := e
    rw [Reals.word_top, Ideal.cmpf_def, Ideal.cmp, Reals.bit_one, decide_eq_true_iff] at e'
    exact e'
  choose X hX using hr
  exact ⟨X, hX⟩

end Cert.Pre_finite.Precond

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Fold
public import proofs.«01_k».proof.Proof.Reference
public import proofs.«01_k».proof.Proof.Precond
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs from any memory, keeps its arguments and ends with every counter at zero: it has none. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1))
        ∧ r.2.sem = fun _ => 0 :=
  (θ_run _ _ _).mono (fun r h => ⟨fun c => (h c).2, sem_eq_zero_of_no_sems (by decide) r.2⟩)
    (Cert.ReferenceIdeal.Value.run (F := Ideal) m g)

/-- From finite logits and equal arguments the kernel and the reference end with equal results: both are the model's value. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre harg
  choose X hX using fun c => Cert.Pre_finite.Precond.reals _ _ (hpre c)
  let L : Dev Cert.KernelIdeal.nD → Fin 100000 → BitVec 32 := fun c k =>
    (m ((c.tc : Thread Cert.KernelIdeal.nD Cert.KernelIdeal.τ).loc Cert.KernelIdeal.main_arg1) : IVec Cert.KernelIdeal.S100000 32) (ix1 k)
  refine ⟨fun c _ => ((Cert.Model.out (X c) (L c) : ℝ) : EReal), ?_, ?_⟩
  · exact (θ_run _ _ _).mono (fun r h c => ⟨(h c).1.trans (Cert.KernelIdeal.Fold.kernel_value m c (X c) (L c) (hX c) fun _ => rfl),
      (h c).2⟩) (Cert.KernelIdeal.Value.run m g)
  · refine (θ_run _ _ _).mono (fun r h c => ⟨(h c).1.trans ?_, (h c).2⟩) (Cert.ReferenceIdeal.Value.run (F := Ideal) m' g')
    refine Cert.ReferenceIdeal.Reference.reference_value (X c) (L c) m' c (fun k q => ?_) fun k => ?_
    · exact (congrFun (harg c).1 (ix2 k q)).trans (hX c k q)
    · exact congrFun (harg c).2 (ix1 k)

/-- All the claims of the certificate. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => frame_reference m ρ,
    fun m ρ _ => frame_reference m ρ,
    trivial,
    algebraic⟩

end Cert.Proof

end
